-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S2x512x8192 : Shape := ⟨3, ![2, 512, 8192]⟩
abbrev S2x512x512 : Shape := ⟨3, ![2, 512, 512]⟩
abbrev S8x128 : Shape := ⟨2, ![8, 128]⟩
abbrev S8x8x128 : Shape := ⟨3, ![8, 8, 128]⟩
abbrev S7 : Shape := ⟨1, ![7]⟩
abbrev S8 : Shape := ⟨1, ![8]⟩
abbrev S2 : Shape := ⟨1, ![2]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x8192 : Shape := ⟨3, ![1, 512, 8192]⟩
abbrev S1x512x1024 : Shape := ⟨3, ![1, 512, 1024]⟩
abbrev S512x1024 : Shape := ⟨2, ![512, 1024]⟩
abbrev S1x1x1 : Shape := ⟨3, ![1, 1, 1]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S512x8192, .f32⟩
  | .local _ .vmem, ⟨1, _⟩ => ⟨S4096x512, .bf16⟩
  | .local _ .vmem, ⟨2, _⟩ => ⟨S8x512x512, .bf16⟩
  | .local _ .vmem, ⟨3, _⟩ => ⟨S2x512x8192, .f32⟩
  | .local _ .vmem, ⟨4, _⟩ => ⟨S2x512x512, .f32⟩
  | .local _ .vmem, ⟨5, _⟩ => ⟨S8x128, .f32⟩
  | .local _ .vmem, ⟨6, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c7_i32_184 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v223 : BitVec 32 := Scalar.addi v2 c7_i32_184
  let c8_i32_185 : BitVec 32 := 8#32
  let c0_i32_186 : BitVec 32 := 0#32
  let v224 : BitVec 1 := Scalar.cmpi .eq c8_i32_185 c0_i32_186
  let c1_i32_187 : BitVec 32 := 1#32
  let v225 : BitVec 32 := Scalar.select v224 c1_i32_187 c8_i32_185
  let v226 : BitVec 32 := Scalar.remsi v223 v225
  let c0_i32_189 : BitVec 32 := 0#32
  let v228 : BitVec 1 := Scalar.cmpi .slt v226 c0_i32_189
  let c0_i32_190 : BitVec 32 := 0#32
  let v229 : BitVec 1 := Scalar.cmpi .slt v225 c0_i32_190
  let v230 : BitVec 1 := Scalar.xori v228 v229
  let c0_i32_188 : BitVec 32 := 0#32
  let v227 : BitVec 1 := Scalar.cmpi .ne v226 c0_i32_188
  let v231 : BitVec 1 := Scalar.andi v230 v227
  let v232 : BitVec 32 := Scalar.addi v226 v225
  let v233 : BitVec 32 := Scalar.select v231 v232 v226
  let c512_i32_191 : BitVec 32 := 512#32
  let v234 : BitVec 32 := Scalar.muli v233 c512_i32_191
  let c0_i32_199 : BitVec 32 := 0#32
  ![v234.toNat, 0]
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_184 : BitVec 32 := 7#32
  let v223 : BitVec 32 := Scalar.addi v2 c7_i32_184
  let c8_i32_185 : BitVec 32 := 8#32
  let c0_i32_186 : BitVec 32 := 0#32
  let v224 : BitVec 1 := Scalar.cmpi .eq c8_i32_185 c0_i32_186
  let c1_i32_187 : BitVec 32 := 1#32
  let v225 : BitVec 32 := Scalar.select v224 c1_i32_187 c8_i32_185
  let v226 : BitVec 32 := Scalar.remsi v223 v225
  let c0_i32_189 : BitVec 32 := 0#32
  let v228 : BitVec 1 := Scalar.cmpi .slt v226 c0_i32_189
  let c0_i32_190 : BitVec 32 := 0#32
  let v229 : BitVec 1 := Scalar.cmpi .slt v225 c0_i32_190
  let v230 : BitVec 1 := Scalar.xori v228 v229
  let c0_i32_188 : BitVec 32 := 0#32
  let v227 : BitVec 1 := Scalar.cmpi .ne v226 c0_i32_188
  let v231 : BitVec 1 := Scalar.andi v230 v227
  let v232 : BitVec 32 := Scalar.addi v226 v225
  let v233 : BitVec 32 := Scalar.select v231 v232 v226
  let c1_i32_195 : BitVec 32 := 1#32
  let v235 : BitVec 32 := Scalar.muli v233 c1_i32_195
  let v236 : BitVec 32 := Scalar.addi c0_i32_196 v235
  v236.toNat
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_200 : BitVec 32 := 6#32
  let v244 : BitVec 32 := Scalar.addi v2 c6_i32_200
  let c8_i32_201 : BitVec 32 := 8#32
  let c0_i32_202 : BitVec 32 := 0#32
  let v245 : BitVec 1 := Scalar.cmpi .eq c8_i32_201 c0_i32_202
  let c1_i32_203 : BitVec 32 := 1#32
  let v246 : BitVec 32 := Scalar.select v245 c1_i32_203 c8_i32_201
  let v247 : BitVec 32 := Scalar.remsi v244 v246
  let c0_i32_205 : BitVec 32 := 0#32
  let v249 : BitVec 1 := Scalar.cmpi .slt v247 c0_i32_205
  let c0_i32_206 : BitVec 32 := 0#32
  let v250 : BitVec 1 := Scalar.cmpi .slt v246 c0_i32_206
  let v251 : BitVec 1 := Scalar.xori v249 v250
  let c0_i32_204 : BitVec 32 := 0#32
  let v248 : BitVec 1 := Scalar.cmpi .ne v247 c0_i32_204
  let v252 : BitVec 1 := Scalar.andi v251 v248
  let v253 : BitVec 32 := Scalar.addi v247 v246
  let v254 : BitVec 32 := Scalar.select v252 v253 v247
  let c1_i32_211 : BitVec 32 := 1#32
  let v256 : BitVec 32 := Scalar.muli v254 c1_i32_211
  let v257 : BitVec 32 := Scalar.addi c0_i32_212 v256
  v257.toNat
def k0_dev10 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_216 : BitVec 32 := 5#32
  let v265 : BitVec 32 := Scalar.addi v2 c5_i32_216
  let c8_i32_217 : BitVec 32 := 8#32
  let c0_i32_218 : BitVec 32 := 0#32
  let v266 : BitVec 1 := Scalar.cmpi .eq c8_i32_217 c0_i32_218
  let c1_i32_219 : BitVec 32 := 1#32
  let v267 : BitVec 32 := Scalar.select v266 c1_i32_219 c8_i32_217
  let v268 : BitVec 32 := Scalar.remsi v265 v267
  let c0_i32_221 : BitVec 32 := 0#32
  let v270 : BitVec 1 := Scalar.cmpi .slt v268 c0_i32_221
  let c0_i32_222 : BitVec 32 := 0#32
  let v271 : BitVec 1 := Scalar.cmpi .slt v267 c0_i32_222
  let v272 : BitVec 1 := Scalar.xori v270 v271
  let c0_i32_220 : BitVec 32 := 0#32
  let v269 : BitVec 1 := Scalar.cmpi .ne v268 c0_i32_220
  let v273 : BitVec 1 := Scalar.andi v272 v269
  let v274 : BitVec 32 := Scalar.addi v268 v267
  let v275 : BitVec 32 := Scalar.select v273 v274 v268
  let c1_i32_227 : BitVec 32 := 1#32
  let v277 : BitVec 32 := Scalar.muli v275 c1_i32_227
  let v278 : BitVec 32 := Scalar.addi c0_i32_228 v277
  v278.toNat
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_232 : BitVec 32 := 4#32
  let v286 : BitVec 32 := Scalar.addi v2 c4_i32_232
  let c8_i32_233 : BitVec 32 := 8#32
  let c0_i32_234 : BitVec 32 := 0#32
  let v287 : BitVec 1 := Scalar.cmpi .eq c8_i32_233 c0_i32_234
  let c1_i32_235 : BitVec 32 := 1#32
  let v288 : BitVec 32 := Scalar.select v287 c1_i32_235 c8_i32_233
  let v289 : BitVec 32 := Scalar.remsi v286 v288
  let c0_i32_237 : BitVec 32 := 0#32
  let v291 : BitVec 1 := Scalar.cmpi .slt v289 c0_i32_237
  let c0_i32_238 : BitVec 32 := 0#32
  let v292 : BitVec 1 := Scalar.cmpi .slt v288 c0_i32_238
  let v293 : BitVec 1 := Scalar.xori v291 v292
  let c0_i32_236 : BitVec 32 := 0#32
  let v290 : BitVec 1 := Scalar.cmpi .ne v289 c0_i32_236
  let v294 : BitVec 1 := Scalar.andi v293 v290
  let v295 : BitVec 32 := Scalar.addi v289 v288
  let v296 : BitVec 32 := Scalar.select v294 v295 v289
  let c1_i32_243 : BitVec 32 := 1#32
  let v298 : BitVec 32 := Scalar.muli v296 c1_i32_243
  let v299 : BitVec 32 := Scalar.addi c0_i32_244 v298
  v299.toNat
def k0_dev12 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_248 : BitVec 32 := 3#32
  let v307 : BitVec 32 := Scalar.addi v2 c3_i32_248
  let c8_i32_249 : BitVec 32 := 8#32
  let c0_i32_250 : BitVec 32 := 0#32
  let v308 : BitVec 1 := Scalar.cmpi .eq c8_i32_249 c0_i32_250
  let c1_i32_251 : BitVec 32 := 1#32
  let v309 : BitVec 32 := Scalar.select v308 c1_i32_251 c8_i32_249
  let v310 : BitVec 32 := Scalar.remsi v307 v309
  let c0_i32_253 : BitVec 32 := 0#32
  let v312 : BitVec 1 := Scalar.cmpi .slt v310 c0_i32_253
  let c0_i32_254 : BitVec 32 := 0#32
  let v313 : BitVec 1 := Scalar.cmpi .slt v309 c0_i32_254
  let v314 : BitVec 1 := Scalar.xori v312 v313
  let c0_i32_252 : BitVec 32 := 0#32
  let v311 : BitVec 1 := Scalar.cmpi .ne v310 c0_i32_252
  let v315 : BitVec 1 := Scalar.andi v314 v311
  let v316 : BitVec 32 := Scalar.addi v310 v309
  let v317 : BitVec 32 := Scalar.select v315 v316 v310
  let c1_i32_259 : BitVec 32 := 1#32
  let v319 : BitVec 32 := Scalar.muli v317 c1_i32_259
  let v320 : BitVec 32 := Scalar.addi c0_i32_260 v319
  v320.toNat
def k0_dev13 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_264 : BitVec 32 := 2#32
  let v328 : BitVec 32 := Scalar.addi v2 c2_i32_264
  let c8_i32_265 : BitVec 32 := 8#32
  let c0_i32_266 : BitVec 32 := 0#32
  let v329 : BitVec 1 := Scalar.cmpi .eq c8_i32_265 c0_i32_266
  let c1_i32_267 : BitVec 32 := 1#32
  let v330 : BitVec 32 := Scalar.select v329 c1_i32_267 c8_i32_265
  let v331 : BitVec 32 := Scalar.remsi v328 v330
  let c0_i32_269 : BitVec 32 := 0#32
  let v333 : BitVec 1 := Scalar.cmpi .slt v331 c0_i32_269
  let c0_i32_270 : BitVec 32 := 0#32
  let v334 : BitVec 1 := Scalar.cmpi .slt v330 c0_i32_270
  let v335 : BitVec 1 := Scalar.xori v333 v334
  let c0_i32_268 : BitVec 32 := 0#32
  let v332 : BitVec 1 := Scalar.cmpi .ne v331 c0_i32_268
  let v336 : BitVec 1 := Scalar.andi v335 v332
  let v337 : BitVec 32 := Scalar.addi v331 v330
  let v338 : BitVec 32 := Scalar.select v336 v337 v331
  let c1_i32_275 : BitVec 32 := 1#32
  let v340 : BitVec 32 := Scalar.muli v338 c1_i32_275
  let v341 : BitVec 32 := Scalar.addi c0_i32_276 v340
  v341.toNat
def k0_dev14 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_280 : BitVec 32 := 1#32
  let v349 : BitVec 32 := Scalar.addi v2 c1_i32_280
  let c8_i32_281 : BitVec 32 := 8#32
  let c0_i32_282 : BitVec 32 := 0#32
  let v350 : BitVec 1 := Scalar.cmpi .eq c8_i32_281 c0_i32_282
  let c1_i32_283 : BitVec 32 := 1#32
  let v351 : BitVec 32 := Scalar.select v350 c1_i32_283 c8_i32_281
  let v352 : BitVec 32 := Scalar.remsi v349 v351
  let c0_i32_285 : BitVec 32 := 0#32
  let v354 : BitVec 1 := Scalar.cmpi .slt v352 c0_i32_285
  let c0_i32_286 : BitVec 32 := 0#32
  let v355 : BitVec 1 := Scalar.cmpi .slt v351 c0_i32_286
  let v356 : BitVec 1 := Scalar.xori v354 v355
  let c0_i32_284 : BitVec 32 := 0#32
  let v353 : BitVec 1 := Scalar.cmpi .ne v352 c0_i32_284
  let v357 : BitVec 1 := Scalar.andi v356 v353
  let v358 : BitVec 32 := Scalar.addi v352 v351
  let v359 : BitVec 32 := Scalar.select v357 v358 v352
  let c1_i32_291 : BitVec 32 := 1#32
  let v361 : BitVec 32 := Scalar.muli v359 c1_i32_291
  let v362 : BitVec 32 := Scalar.addi c0_i32_292 v361
  v362.toNat
def k0_off2 (d0 : Dev nD) (c0_i32_296 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v370 : BitVec 32 := Scalar.addi v2 c0_i32_296
  let c8_i32_297 : BitVec 32 := 8#32
  let c0_i32_298 : BitVec 32 := 0#32
  let v371 : BitVec 1 := Scalar.cmpi .eq c8_i32_297 c0_i32_298
  let c1_i32_299 : BitVec 32 := 1#32
  let v372 : BitVec 32 := Scalar.select v371 c1_i32_299 c8_i32_297
  let v373 : BitVec 32 := Scalar.remsi v370 v372
  let c0_i32_301 : BitVec 32 := 0#32
  let v375 : BitVec 1 := Scalar.cmpi .slt v373 c0_i32_301
  let c0_i32_302 : BitVec 32 := 0#32
  let v376 : BitVec 1 := Scalar.cmpi .slt v372 c0_i32_302
  let v377 : BitVec 1 := Scalar.xori v375 v376
  let c0_i32_300 : BitVec 32 := 0#32
  let v374 : BitVec 1 := Scalar.cmpi .ne v373 c0_i32_300
  let v378 : BitVec 1 := Scalar.andi v377 v374
  let v379 : BitVec 32 := Scalar.addi v373 v372
  let v380 : BitVec 32 := Scalar.select v378 v379 v373
  let c512_i32_303 : BitVec 32 := 512#32
  let v381 : BitVec 32 := Scalar.muli v380 c512_i32_303
  let c0_i32_308 : BitVec 32 := 0#32
  ![v381.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_327 : BitVec 32 := 512#32
  let v409 : BitVec 32 := Scalar.muli v2 c512_i32_327
  let v410 : Index := Scalar.indexCast v409
  let c0_328 : Index := 0#32
  ![v410.toNat, 0]
def k0_dev15 (d0 : Dev nD) : Nat :=
  let c0_i32_1046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1035 : BitVec 32 := 1#32
  let v1102 : BitVec 32 := Scalar.addi v2 c1_i32_1035
  let c8_i32_1036 : BitVec 32 := 8#32
  let c0_i32_1037 : BitVec 32 := 0#32
  let v1103 : BitVec 1 := Scalar.cmpi .eq c8_i32_1036 c0_i32_1037
  let c1_i32_1038 : BitVec 32 := 1#32
  let v1104 : BitVec 32 := Scalar.select v1103 c1_i32_1038 c8_i32_1036
  let v1105 : BitVec 32 := Scalar.remsi v1102 v1104
  let c0_i32_1040 : BitVec 32 := 0#32
  let v1107 : BitVec 1 := Scalar.cmpi .slt v1105 c0_i32_1040
  let c0_i32_1041 : BitVec 32 := 0#32
  let v1108 : BitVec 1 := Scalar.cmpi .slt v1104 c0_i32_1041
  let v1109 : BitVec 1 := Scalar.xori v1107 v1108
  let c0_i32_1039 : BitVec 32 := 0#32
  let v1106 : BitVec 1 := Scalar.cmpi .ne v1105 c0_i32_1039
  let v1110 : BitVec 1 := Scalar.andi v1109 v1106
  let v1111 : BitVec 32 := Scalar.addi v1105 v1104
  let v1112 : BitVec 32 := Scalar.select v1110 v1111 v1105
  let c1_i32_1045 : BitVec 32 := 1#32
  let v1113 : BitVec 32 := Scalar.muli v1112 c1_i32_1045
  let v1114 : BitVec 32 := Scalar.addi c0_i32_1046 v1113
  v1114.toNat
def k0_dev16 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1049 : BitVec 32 := 2#32
  let v1121 : BitVec 32 := Scalar.addi v2 c2_i32_1049
  let c8_i32_1050 : BitVec 32 := 8#32
  let c0_i32_1051 : BitVec 32 := 0#32
  let v1122 : BitVec 1 := Scalar.cmpi .eq c8_i32_1050 c0_i32_1051
  let c1_i32_1052 : BitVec 32 := 1#32
  let v1123 : BitVec 32 := Scalar.select v1122 c1_i32_1052 c8_i32_1050
  let v1124 : BitVec 32 := Scalar.remsi v1121 v1123
  let c0_i32_1054 : BitVec 32 := 0#32
  let v1126 : BitVec 1 := Scalar.cmpi .slt v1124 c0_i32_1054
  let c0_i32_1055 : BitVec 32 := 0#32
  let v1127 : BitVec 1 := Scalar.cmpi .slt v1123 c0_i32_1055
  let v1128 : BitVec 1 := Scalar.xori v1126 v1127
  let c0_i32_1053 : BitVec 32 := 0#32
  let v1125 : BitVec 1 := Scalar.cmpi .ne v1124 c0_i32_1053
  let v1129 : BitVec 1 := Scalar.andi v1128 v1125
  let v1130 : BitVec 32 := Scalar.addi v1124 v1123
  let v1131 : BitVec 32 := Scalar.select v1129 v1130 v1124
  let c1_i32_1059 : BitVec 32 := 1#32
  let v1132 : BitVec 32 := Scalar.muli v1131 c1_i32_1059
  let v1133 : BitVec 32 := Scalar.addi c0_i32_1060 v1132
  v1133.toNat
def k0_dev17 (d0 : Dev nD) : Nat :=
  let c0_i32_1074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1063 : BitVec 32 := 3#32
  let v1140 : BitVec 32 := Scalar.addi v2 c3_i32_1063
  let c8_i32_1064 : BitVec 32 := 8#32
  let c0_i32_1065 : BitVec 32 := 0#32
  let v1141 : BitVec 1 := Scalar.cmpi .eq c8_i32_1064 c0_i32_1065
  let c1_i32_1066 : BitVec 32 := 1#32
  let v1142 : BitVec 32 := Scalar.select v1141 c1_i32_1066 c8_i32_1064
  let v1143 : BitVec 32 := Scalar.remsi v1140 v1142
  let c0_i32_1068 : BitVec 32 := 0#32
  let v1145 : BitVec 1 := Scalar.cmpi .slt v1143 c0_i32_1068
  let c0_i32_1069 : BitVec 32 := 0#32
  let v1146 : BitVec 1 := Scalar.cmpi .slt v1142 c0_i32_1069
  let v1147 : BitVec 1 := Scalar.xori v1145 v1146
  let c0_i32_1067 : BitVec 32 := 0#32
  let v1144 : BitVec 1 := Scalar.cmpi .ne v1143 c0_i32_1067
  let v1148 : BitVec 1 := Scalar.andi v1147 v1144
  let v1149 : BitVec 32 := Scalar.addi v1143 v1142
  let v1150 : BitVec 32 := Scalar.select v1148 v1149 v1143
  let c1_i32_1073 : BitVec 32 := 1#32
  let v1151 : BitVec 32 := Scalar.muli v1150 c1_i32_1073
  let v1152 : BitVec 32 := Scalar.addi c0_i32_1074 v1151
  v1152.toNat
def k0_dev18 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1077 : BitVec 32 := 4#32
  let v1159 : BitVec 32 := Scalar.addi v2 c4_i32_1077
  let c8_i32_1078 : BitVec 32 := 8#32
  let c0_i32_1079 : BitVec 32 := 0#32
  let v1160 : BitVec 1 := Scalar.cmpi .eq c8_i32_1078 c0_i32_1079
  let c1_i32_1080 : BitVec 32 := 1#32
  let v1161 : BitVec 32 := Scalar.select v1160 c1_i32_1080 c8_i32_1078
  let v1162 : BitVec 32 := Scalar.remsi v1159 v1161
  let c0_i32_1082 : BitVec 32 := 0#32
  let v1164 : BitVec 1 := Scalar.cmpi .slt v1162 c0_i32_1082
  let c0_i32_1083 : BitVec 32 := 0#32
  let v1165 : BitVec 1 := Scalar.cmpi .slt v1161 c0_i32_1083
  let v1166 : BitVec 1 := Scalar.xori v1164 v1165
  let c0_i32_1081 : BitVec 32 := 0#32
  let v1163 : BitVec 1 := Scalar.cmpi .ne v1162 c0_i32_1081
  let v1167 : BitVec 1 := Scalar.andi v1166 v1163
  let v1168 : BitVec 32 := Scalar.addi v1162 v1161
  let v1169 : BitVec 32 := Scalar.select v1167 v1168 v1162
  let c1_i32_1087 : BitVec 32 := 1#32
  let v1170 : BitVec 32 := Scalar.muli v1169 c1_i32_1087
  let v1171 : BitVec 32 := Scalar.addi c0_i32_1088 v1170
  v1171.toNat
def k0_dev19 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1091 : BitVec 32 := 5#32
  let v1178 : BitVec 32 := Scalar.addi v2 c5_i32_1091
  let c8_i32_1092 : BitVec 32 := 8#32
  let c0_i32_1093 : BitVec 32 := 0#32
  let v1179 : BitVec 1 := Scalar.cmpi .eq c8_i32_1092 c0_i32_1093
  let c1_i32_1094 : BitVec 32 := 1#32
  let v1180 : BitVec 32 := Scalar.select v1179 c1_i32_1094 c8_i32_1092
  let v1181 : BitVec 32 := Scalar.remsi v1178 v1180
  let c0_i32_1096 : BitVec 32 := 0#32
  let v1183 : BitVec 1 := Scalar.cmpi .slt v1181 c0_i32_1096
  let c0_i32_1097 : BitVec 32 := 0#32
  let v1184 : BitVec 1 := Scalar.cmpi .slt v1180 c0_i32_1097
  let v1185 : BitVec 1 := Scalar.xori v1183 v1184
  let c0_i32_1095 : BitVec 32 := 0#32
  let v1182 : BitVec 1 := Scalar.cmpi .ne v1181 c0_i32_1095
  let v1186 : BitVec 1 := Scalar.andi v1185 v1182
  let v1187 : BitVec 32 := Scalar.addi v1181 v1180
  let v1188 : BitVec 32 := Scalar.select v1186 v1187 v1181
  let c1_i32_1101 : BitVec 32 := 1#32
  let v1189 : BitVec 32 := Scalar.muli v1188 c1_i32_1101
  let v1190 : BitVec 32 := Scalar.addi c0_i32_1102 v1189
  v1190.toNat
def k0_dev20 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1105 : BitVec 32 := 6#32
  let v1197 : BitVec 32 := Scalar.addi v2 c6_i32_1105
  let c8_i32_1106 : BitVec 32 := 8#32
  let c0_i32_1107 : BitVec 32 := 0#32
  let v1198 : BitVec 1 := Scalar.cmpi .eq c8_i32_1106 c0_i32_1107
  let c1_i32_1108 : BitVec 32 := 1#32
  let v1199 : BitVec 32 := Scalar.select v1198 c1_i32_1108 c8_i32_1106
  let v1200 : BitVec 32 := Scalar.remsi v1197 v1199
  let c0_i32_1110 : BitVec 32 := 0#32
  let v1202 : BitVec 1 := Scalar.cmpi .slt v1200 c0_i32_1110
  let c0_i32_1111 : BitVec 32 := 0#32
  let v1203 : BitVec 1 := Scalar.cmpi .slt v1199 c0_i32_1111
  let v1204 : BitVec 1 := Scalar.xori v1202 v1203
  let c0_i32_1109 : BitVec 32 := 0#32
  let v1201 : BitVec 1 := Scalar.cmpi .ne v1200 c0_i32_1109
  let v1205 : BitVec 1 := Scalar.andi v1204 v1201
  let v1206 : BitVec 32 := Scalar.addi v1200 v1199
  let v1207 : BitVec 32 := Scalar.select v1205 v1206 v1200
  let c1_i32_1115 : BitVec 32 := 1#32
  let v1208 : BitVec 32 := Scalar.muli v1207 c1_i32_1115
  let v1209 : BitVec 32 := Scalar.addi c0_i32_1116 v1208
  v1209.toNat
def k0_dev21 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1119 : BitVec 32 := 7#32
  let v1216 : BitVec 32 := Scalar.addi v2 c7_i32_1119
  let c8_i32_1120 : BitVec 32 := 8#32
  let c0_i32_1121 : BitVec 32 := 0#32
  let v1217 : BitVec 1 := Scalar.cmpi .eq c8_i32_1120 c0_i32_1121
  let c1_i32_1122 : BitVec 32 := 1#32
  let v1218 : BitVec 32 := Scalar.select v1217 c1_i32_1122 c8_i32_1120
  let v1219 : BitVec 32 := Scalar.remsi v1216 v1218
  let c0_i32_1124 : BitVec 32 := 0#32
  let v1221 : BitVec 1 := Scalar.cmpi .slt v1219 c0_i32_1124
  let c0_i32_1125 : BitVec 32 := 0#32
  let v1222 : BitVec 1 := Scalar.cmpi .slt v1218 c0_i32_1125
  let v1223 : BitVec 1 := Scalar.xori v1221 v1222
  let c0_i32_1123 : BitVec 32 := 0#32
  let v1220 : BitVec 1 := Scalar.cmpi .ne v1219 c0_i32_1123
  let v1224 : BitVec 1 := Scalar.andi v1223 v1220
  let v1225 : BitVec 32 := Scalar.addi v1219 v1218
  let v1226 : BitVec 32 := Scalar.select v1224 v1225 v1219
  let c1_i32_1129 : BitVec 32 := 1#32
  let v1227 : BitVec 32 := Scalar.muli v1226 c1_i32_1129
  let v1228 : BitVec 32 := Scalar.addi c0_i32_1130 v1227
  v1228.toNat
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .fp8e4m3⟩
  | .hbm, ⟨19, _⟩ => ⟨S1x1, .f32⟩
  | .hbm, ⟨20, _⟩ => ⟨S4096x8192, .f32⟩
  | .local _ .vmem, ⟨0, _⟩ => ⟨S4096x8192, .fp8e4m3⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Program.lean ====
/- The kernel's body written with loops: the same operations in the same order as the printed text, every step
   named once at a symbolic index, and the equation between the two. -/
module

public import proofs.«01_k».proof.Proof.Gen.KernelIdeal.Frame
public import proofs.«01_k».proof.Proof.Gen.KernelIdeal.Skeleton

@[expose] public section

noncomputable section

namespace Cert.KernelIdeal.Amax

open Idealize.ShloMosaic Idealize.ShloMosaic.TcCoe
open Idealize.SL Idealize.SL.Sem
open Cert.KernelIdeal.Gen

variable {F : FTy → Type} [FloatOps F]

/-- A program of one TensorCore of the mesh. -/
abbrev Tc (F : FTy → Type) (α : Type) := Prog (TpuEff nD τ sig (Elt F) Λ₀ .tc) α

/-! ## Loops -/

/-- `f 0`, then `f 1`, …, then `f (n - 1)`. -/
def seqN {F : FTy → Type} : (n : ℕ) → (Fin n → Tc F PUnit) → Tc F PUnit
  | 0, _ => pure ⟨⟩
  | n + 1, f => f 0 >>= fun _ => seqN n fun i => f i.succ

/-- As `seqN`, gathering what each step returns. -/
def collectN {F : FTy → Type} {α : Type} : (n : ℕ) → (Fin n → Tc F α) → Tc F (Fin n → α)
  | 0, _ => pure Fin.elim0
  | n + 1, f => f 0 >>= fun a => collectN n (fun i => f i.succ) >>= fun r => pure (Fin.cons a r)

/-! ## The buffers -/

abbrev xA : Memref sig .tc .hbm S4096x512 .f32 := Memref.whole main_arg0
abbrev wA : Memref sig .tc .hbm S4096x8192 .f32 := Memref.whole main_arg1
abbrev oM : Memref sig .tc .vmem S512x8192 .f32 := Memref.whole cc0_stg0_0
abbrev xbf : Memref sig .tc .vmem S4096x512 .bf16 := Memref.whole cc0_scratch0
abbrev xblk : Memref sig .tc .vmem S8x512x512 .bf16 := Memref.whole cc0_scratch1
abbrev wbuf : Memref sig .tc .vmem S2x512x8192 .f32 := Memref.whole cc0_scratch2
abbrev stg : Memref sig .tc .vmem S2x512x512 .f32 := Memref.whole cc0_scratch3
abbrev asrc : Memref sig .tc .vmem S8x128 .f32 := Memref.whole cc0_scratch4
abbrev abuf : Memref sig .tc .vmem S8x8x128 .f32 := Memref.whole cc0_scratch5

/-- The parity of a step: which half of a double buffer it is on. -/
abbrev par (k : Fin 8) : Fin 2 := ⟨k.val % 2, Nat.mod_lt _ (by decide)⟩

/-! ## The rectangles -/

theorem inb_rows : ∀ j : Fin 8, ∀ a, (![512 * j.val, 0] : Fin 2 → Nat) a + S512x512.size a ≤ S4096x512.size a := by decide
theorem inb_stg : ∀ s : Fin 2, ∀ a, (![s.val, 0, 0] : Fin 3 → Nat) a + S1x512x512.size a ≤ S2x512x512.size a := by decide
theorem inb_slot : ∀ k : Fin 8, ∀ a, (![k.val, 0, 0] : Fin 3 → Nat) a + S1x512x512.size a ≤ S8x512x512.size a := by decide
theorem inb_wslot : ∀ s : Fin 2, ∀ a, (![s.val, 0, 0] : Fin 3 → Nat) a + S1x512x8192.size a ≤ S2x512x8192.size a := by decide
theorem inb_wtile : ∀ (s : Fin 2) (n : Fin 8), ∀ a, (![s.val, 0, 1024 * n.val] : Fin 3 → Nat) a + S1x512x1024.size a ≤ S2x512x8192.size a := by decide
theorem inb_tile : ∀ n : Fin 8, ∀ a, (![0, 1024 * n.val] : Fin 2 → Nat) a + S512x1024.size a ≤ S512x8192.size a := by decide
theorem inb_aslot : ∀ k : Fin 8, ∀ a, (![k.val, 0, 0] : Fin 3 → Nat) a + S1x8x128.size a ≤ S8x8x128.size a := by decide
theorem inb_acell : ∀ k : Fin 8, ∀ a, (![k.val, 0, 0] : Fin 3 → Nat) a + S1x1x1.size a ≤ S8x8x128.size a := by decide
theorem inb_sem8 : ∀ k : Fin 8, ∀ a, (![k.val] : Fin 1 → Nat) a + S1.size a ≤ S8.size a := by decide
theorem inb_sem7 : ∀ k : Fin 7, ∀ a, (![k.val] : Fin 1 → Nat) a + S1.size a ≤ S7.size a := by decide
theorem inb_sem2 : ∀ k : Fin 2, ∀ a, (![k.val] : Fin 1 → Nat) a + S1.size a ≤ S2.size a := by decide

abbrev rowsR (j : Fin 8) : Rect S4096x512 := Rect.unit (s := S4096x512) ![512 * j.val, 0] S512x512.size (inb_rows j)
abbrev stgR (s : Fin 2) : Rect S2x512x512 := Rect.unit (s := S2x512x512) ![s.val, 0, 0] S1x512x512.size (inb_stg s)
abbrev slotR (k : Fin 8) : Rect S8x512x512 := Rect.unit (s := S8x512x512) ![k.val, 0, 0] S1x512x512.size (inb_slot k)
abbrev wslotR (s : Fin 2) : Rect S2x512x8192 := Rect.unit (s := S2x512x8192) ![s.val, 0, 0] S1x512x8192.size (inb_wslot s)
abbrev wtileR (s : Fin 2) (n : Fin 8) : Rect S2x512x8192 :=
  Rect.unit (s := S2x512x8192) ![s.val, 0, 1024 * n.val] S1x512x1024.size (inb_wtile s n)
abbrev tileR (n : Fin 8) : Rect S512x8192 := Rect.unit (s := S512x8192) ![0, 1024 * n.val] S512x1024.size (inb_tile n)
abbrev aslotR (k : Fin 8) : Rect S8x8x128 := Rect.unit (s := S8x8x128) ![k.val, 0, 0] S1x8x128.size (inb_aslot k)
abbrev acellR (k : Fin 8) : Rect S8x8x128 := Rect.unit (s := S8x8x128) ![k.val, 0, 0] S1x1x1.size (inb_acell k)
abbrev asrcR : Rect S8x128 := Rect.unit (s := S8x128) ![0, 0] S8x128.size inb_S8x128_S8x128_0_0

theorem packed_rows : ∀ j : Fin 8, (rowsR j).PackedRows (EltTy.packing .bf16) := by decide
theorem words_slot : ∀ k : Fin 8, (slotR k).WholeWords (EltTy.packing .bf16) := by decide

/-- The rows of the device's block of `x` that another device needs: row block `(d + r + 1) mod 8`. -/
abbrev sendR (d : Dev nD) (r : Fin 7) : Rect S4096x512 :=
  Rect.unit (s := S4096x512) (k0_off1 d (BitVec.ofNat 32 (1 + r.val))) S512x512.size (k0_off1_inb d r)
/-- The rows of `w` that step `k` multiplies by: row block `(d + k) mod 8`. -/
abbrev wrowsR (d : Dev nD) (k : Fin 8) : Rect S4096x8192 :=
  Rect.unit (s := S4096x8192) (k0_off2 d (BitVec.ofNat 32 k.val)) S512x8192.size (k0_off2_inb d k)
/-- The device's own rows: row block `d`. -/
abbrev ownR (d : Dev nD) : Rect S4096x512 := Rect.unit (s := S4096x512) (k0_off3 d) S512x512.size (k0_off3_inb d)

/-! ## The views the transfers take, and their semaphores -/

abbrev xRows (j : Fin 8) : Memref sig .tc .hbm S512x512 .f32 := xA.slice (rowsR j) (fun _ => rfl)
abbrev stgSlot (s : Fin 2) : Memref sig .tc .vmem S512x512 .f32 :=
  (stg.slice (stgR s) (fun _ => rfl)).squeeze S512x512 squeezes_S1x512x512_S512x512
abbrev sendRows (d : Dev nD) (r : Fin 7) : Memref sig .tc .vmem S512x512 .bf16 := xbf.slice (sendR d r) (fun _ => rfl)
abbrev slotM (k : Fin 8) : Memref sig .tc .vmem S512x512 .bf16 :=
  (xblk.slice (slotR k) (fun _ => rfl)).squeeze S512x512 squeezes_S1x512x512_S512x512
abbrev wRows (d : Dev nD) (k : Fin 8) : Memref sig .tc .hbm S512x8192 .f32 := wA.slice (wrowsR d k) (fun _ => rfl)
abbrev wSlot (s : Fin 2) : Memref sig .tc .vmem S512x8192 .f32 :=
  (wbuf.slice (wslotR s) (fun _ => rfl)).squeeze S512x8192 squeezes_S1x512x8192_S512x8192
abbrev aslotM (k : Fin 8) : Memref sig .tc .vmem S8x128 .f32 :=
  (abuf.slice (aslotR k) (fun _ => rfl)).squeeze S8x128 squeezes_S1x8x128_S8x128

abbrev barS : Sem sig := (SemArray.scalar (sig.barrier 0 rfl) : Sems sig S_).sem
abbrev bsendS (r : Fin 7) : DmaSem sig := ((cc0_scratch6.slice (Rect.unit (s := S7) ![r.val] S1.size (inb_sem7 r))).squeeze S_ squeezes_S1_S_).sem
abbrev brecvS (k : Fin 8) : DmaSem sig := ((cc0_scratch7.slice (Rect.unit (s := S8) ![k.val] S1.size (inb_sem8 k))).squeeze S_ squeezes_S1_S_).sem
abbrev wS (s : Fin 2) : DmaSem sig := ((cc0_scratch8.slice (Rect.unit (s := S2) ![s.val] S1.size (inb_sem2 s))).squeeze S_ squeezes_S1_S_).sem
abbrev stgS (s : Fin 2) : DmaSem sig := ((cc0_scratch9.slice (Rect.unit (s := S2) ![s.val] S1.size (inb_sem2 s))).squeeze S_ squeezes_S1_S_).sem
abbrev asendS (r : Fin 7) : DmaSem sig := ((cc0_scratch10.slice (Rect.unit (s := S7) ![r.val] S1.size (inb_sem7 r))).squeeze S_ squeezes_S1_S_).sem
abbrev arecvS (k : Fin 8) : DmaSem sig := ((cc0_scratch11.slice (Rect.unit (s := S8) ![k.val] S1.size (inb_sem8 k))).squeeze S_ squeezes_S1_S_).sem

/-! ## The devices addressed -/

/-- The device the `r`-th signal goes to. -/
def sigDev (d : Dev nD) : Fin 7 → Dev nD
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩
/-- The device row block `(d + r + 1) mod 8` is sent to. -/
def rowDev (d : Dev nD) : Fin 7 → Dev nD
  | 0 => ⟨k0_dev14 d, k0_dev14_lt d⟩ | 1 => ⟨k0_dev13 d, k0_dev13_lt d⟩ | 2 => ⟨k0_dev12 d, k0_dev12_lt d⟩
  | 3 => ⟨k0_dev11 d, k0_dev11_lt d⟩ | 4 => ⟨k0_dev10 d, k0_dev10_lt d⟩ | 5 => ⟨k0_dev9 d, k0_dev9_lt d⟩
  | 6 => ⟨k0_dev8 d, k0_dev8_lt d⟩
/-- The device the `r`-th copy of the local maximum goes to. -/
def maxDev (d : Dev nD) : Fin 7 → Dev nD
  | 0 => ⟨k0_dev15 d, k0_dev15_lt d⟩ | 1 => ⟨k0_dev16 d, k0_dev16_lt d⟩ | 2 => ⟨k0_dev17 d, k0_dev17_lt d⟩
  | 3 => ⟨k0_dev18 d, k0_dev18_lt d⟩ | 4 => ⟨k0_dev19 d, k0_dev19_lt d⟩ | 5 => ⟨k0_dev20 d, k0_dev20_lt d⟩
  | 6 => ⟨k0_dev21 d, k0_dev21_lt d⟩

/-- The slot the `r`-th send fills at its target: `7 - r`. -/
abbrev opp (r : Fin 7) : Fin 8 := ⟨7 - r.val, by omega⟩
/-- The `r`-th step after the first. -/
abbrev nxt (r : Fin 7) : Fin 8 := r.succ

/-! ## What the steps compute -/

/-- A staged block of `x`, rounded. -/
def roundX (v : Vec F S1x512x512 .f32) : FVec F S512x512 .bf16 :=
  shapeCast S512x512 (truncf .bf16 (shapeCast S512x512 v shapeCasts_S1x512x512_S512x512 : FVec F S512x512 .f32) bitsLt_bf16_f32) shapeCasts_S512x512_S512x512
/-- The device's own rows widened. -/
def ownX (v : Vec F S512x512 .bf16) : FVec F S512x512 .f32 := extf .f32 (v : FVec F S512x512 .bf16) bitsLt_bf16_f32
/-- Received rows widened. -/
def recvX (v : Vec F S1x512x512 .bf16) : FVec F S512x512 .f32 :=
  extf .f32 (shapeCast S512x512 v shapeCasts_S1x512x512_S512x512 : FVec F S512x512 .bf16) bitsLt_bf16_f32
/-- One block product. -/
def prod (x : FVec F S512x512 .f32) (w : Vec F S1x512x1024 .f32) : FVec F S512x1024 .f32 :=
  matmul dot_S512x512_S512x1024_S512x1024_1_0_0_1_n_n none x
    (shapeCast S512x1024 w shapeCasts_S1x512x1024_S512x1024 : FVec F S512x1024 .f32) (constant S512x1024 .f32 0x00000000#32)
/-- One block product added to what the tile held. -/
def accum (x : FVec F S512x512 .f32) (w : Vec F S1x512x1024 .f32) (o : Vec F S512x1024 .f32) : FVec F S512x1024 .f32 :=
  addf (shapeCast S512x1024 o shapeCasts_S512x1024_S512x1024 : FVec F S512x1024 .f32) (prod x w)
/-- The largest magnitude of one tile. -/
def tileMax (v : FVec F S512x1024 .f32) : F .f32 :=
  extractAt ![0, 0, 0] (shapeCast S1x1x1 (multiReduction .maximumf [1, 2] S1
    (shapeCast S1x512x1024 (absf v : FVec F S512x1024 .f32) shapeCasts_S512x1024_S1x512x1024 : FVec F S1x512x1024 .f32)
    0xFF800000#32 reduces_S1x512x1024_S1 (.inl rfl) rfl : FVec F S1 .f32) shapeCasts_S1_S1x1x1 : FVec F S1x1x1 .f32) inpos_S1x1x1_p0_0_0
/-- The largest magnitude of the eight tiles. -/
def localMax (v : Fin 8 → FVec F S512x1024 .f32) : F .f32 :=
  Scalar.maximumf (Scalar.maximumf (Scalar.maximumf (Scalar.maximumf (Scalar.maximumf (Scalar.maximumf (Scalar.maximumf
    (tileMax (v 0)) (tileMax (v 1))) (tileMax (v 2))) (tileMax (v 3))) (tileMax (v 4))) (tileMax (v 5))) (tileMax (v 6))) (tileMax (v 7))
/-- The local maximum in every lane of the block that is sent. -/
def spread (a : F .f32) : FVec F S8x128 .f32 :=
  shapeCast S8x128 (broadcast S8x128 a : FVec F S8x128 .f32) shapeCasts_S8x128_S8x128
/-- The number one received block carries. -/
def lane0 (v : Vec F S1x1x1 .f32) : F .f32 := extractAt ![0, 0, 0] (v : FVec F S1x1x1 .f32) inpos_S1x1x1_p0_0_0
/-- The largest of the local maximum and the seven received. -/
def globalMax (a : F .f32) (b : Fin 7 → F .f32) : F .f32 :=
  Scalar.maximumf (Scalar.maximumf (Scalar.maximumf (Scalar.maximumf (Scalar.maximumf (Scalar.maximumf (Scalar.maximumf
    a (b 0)) (b 1)) (b 2)) (b 3)) (b 4)) (b 5)) (b 6)
/-- One tile quantised and scaled back. -/
def quant (g : F .f32) (v : Vec F S512x1024 .f32) : FVec F S512x1024 .f32 :=
  mulf (extf .f32 (truncf .fp8e4m3 (minimumf (broadcast S512x1024 (Scalar.ofBits .f32 0x43E00000#32) : FVec F S512x1024 .f32)
    (maximumf (broadcast S512x1024 (Scalar.ofBits .f32 0xC3E00000#32) : FVec F S512x1024 .f32)
      (mulf (shapeCast S512x1024 v shapeCasts_S512x1024_S512x1024 : FVec F S512x1024 .f32)
        (broadcast S512x1024 (Scalar.divf (Scalar.ofBits .f32 0x43E00000#32 : F .f32) g) : FVec F S512x1024 .f32))))
    bitsLt_fp8e4m3_f32 : FVec F S512x1024 .fp8e4m3) bitsLt_fp8e4m3_f32 : FVec F S512x1024 .f32)
    (broadcast S512x1024 (Scalar.divf g (Scalar.ofBits .f32 0x43E00000#32 : F .f32)) : FVec F S512x1024 .f32)

/-! ## The steps -/

/-- Start the copy of row block `j` into its staging half. -/
def stgCopy (j : Fin 8) : Tc F PUnit :=
  Prog.lift (.enqueueDma (xRows j) (.here (stgSlot (par j))) (.dma (stgS (par j))) (View.wordExact_bits rfl) ((View.wordExact_bits rfl).reshape _ _) ⟨Or.inl rfl, trivial⟩)
/-- Wait for row block `j`, round it and keep it. -/
def stgRound (j : Fin 8) : Tc F PUnit := do
  Prog.lift (.waitDma2 (stgS (par j)) (xRows j) (stgSlot (par j)) (View.wordExact_bits rfl) ((View.wordExact_bits rfl).reshape _ _))
  let v : Vec F S1x512x512 .f32 ← Prog.lift (.load stg (stgR (par j)).toLoadRect (View.loadsAt_vmem h_S1x512x512))
  let _ : Vec F S512x512 .bf16 ← Prog.lift (.load xbf (rowsR j).toLoadRect (View.loadsAt_vmem h_S512x512))
  Prog.lift (.store xbf (rowsR j) (roundX v) Finset.univ (View.stores_vmem h_S512x512 ((Memref.isWhole_whole _).storeExact_slice rfl _ (packed_rows j)) (fun _ => rfl)) (.inl rfl))
/-- Row block `j` of the first six: rounded, then the copy two ahead started. -/
def stgStep (i : Fin 6) : Tc F PUnit := do
  stgRound ⟨i.val, by omega⟩
  stgCopy ⟨i.val + 2, by omega⟩

/-- Send the rows the target needs. -/
def rowSend (d : Dev nD) (r : Fin 7) : Tc F PUnit :=
  Prog.lift (.enqueueDma (sendRows d r) (.remote (Dev.tc (rowDev d r)) (slotM (opp r)) (.dma (bsendS r))) (.dma (brecvS (opp r)))
    ((Memref.isWhole_whole _).wordExact_slice rfl _ (k0_off1_wordsbf16 d r)) (((Memref.isWhole_whole _).wordExact_slice rfl _ (words_slot (opp r))).reshape _ _) ⟨⟨rfl, Or.inl rfl⟩, trivial⟩)
/-- Start the copy of the rows of `w` for step `k`. -/
def wCopy (d : Dev nD) (k : Fin 8) : Tc F PUnit :=
  Prog.lift (.enqueueDma (wRows d k) (.here (wSlot (par k))) (.dma (wS (par k))) (View.wordExact_bits rfl) ((View.wordExact_bits rfl).reshape _ _) ⟨Or.inl rfl, trivial⟩)
/-- Wait for the rows of `w` for step `k`. -/
def wWait (d : Dev nD) (k : Fin 8) : Tc F PUnit :=
  Prog.lift (.waitDma2 (wS (par k)) (wRows d k) (wSlot (par k)) (View.wordExact_bits rfl) ((View.wordExact_bits rfl).reshape _ _))
/-- Wait for the rows of `x` for step `k`. -/
def rowWait (k : Fin 8) : Tc F PUnit :=
  Prog.lift (.waitDma2 (brecvS k) (slotM k) (slotM k) (((Memref.isWhole_whole _).wordExact_slice rfl _ (words_slot k)).reshape _ _) (((Memref.isWhole_whole _).wordExact_slice rfl _ (words_slot k)).reshape _ _))
/-- One tile of the first step. -/
def tileFirst (x : FVec F S512x512 .f32) (n : Fin 8) : Tc F PUnit := do
  let w : Vec F S1x512x1024 .f32 ← Prog.lift (.load wbuf (wtileR 0 n).toLoadRect (View.loadsAt_vmem h_S1x512x1024))
  let _ : Vec F S512x1024 .f32 ← Prog.lift (.load oM (tileR n).toLoadRect (View.loadsAt_vmem h_S512x1024))
  Prog.lift (.store oM (tileR n) (prod x w) Finset.univ (View.stores_vmem_bits_univ h_S512x1024 rfl) (.inl rfl))
/-- One tile of a later step. -/
def tileNext (s : Fin 2) (x : FVec F S512x512 .f32) (n : Fin 8) : Tc F (FVec F S512x1024 .f32) := do
  let w : Vec F S1x512x1024 .f32 ← Prog.lift (.load wbuf (wtileR s n).toLoadRect (View.loadsAt_vmem h_S1x512x1024))
  let o : Vec F S512x1024 .f32 ← Prog.lift (.load oM (tileR n).toLoadRect (View.loadsAt_vmem h_S512x1024))
  let _ : Vec F S512x1024 .f32 ← Prog.lift (.load oM (tileR n).toLoadRect (View.loadsAt_vmem h_S512x1024))
  Prog.lift (.store oM (tileR n) (accum x w o) Finset.univ (View.stores_vmem_bits_univ h_S512x1024 rfl) (.inl rfl))
  pure (accum x w o)
/-- The first step: the device's own rows. -/
def stepFirst (d : Dev nD) : Tc F PUnit := do
  wCopy d 0
  wCopy d 1
  wWait d 0
  let v : Vec F S512x512 .bf16 ← Prog.lift (.load xbf (ownR d).toLoadRect (View.loadsAt_vmem h_S512x512))
  seqN 8 (tileFirst (ownX v))
/-- The end of step `k`: its rows and its eight tiles. -/
def stepTiles (d : Dev nD) (k : Fin 8) : Tc F (Fin 8 → FVec F S512x1024 .f32) := do
  rowWait k
  wWait d k
  let v : Vec F S1x512x512 .bf16 ← Prog.lift (.load xblk (slotR k).toLoadRect (View.loadsAt_vmem h_S1x512x512))
  collectN 8 (tileNext (par k) (recvX v))
/-- Steps one to six. -/
def stepMid (d : Dev nD) (i : Fin 6) : Tc F PUnit := do
  wCopy d ⟨i.val + 2, by omega⟩
  let _ ← stepTiles d ⟨i.val + 1, by omega⟩
  pure ⟨⟩

/-- Send the local maximum. -/
def maxSend (d : Dev nD) (r : Fin 7) : Tc F PUnit :=
  Prog.lift (.enqueueDma asrc (.remote (Dev.tc (maxDev d r)) (aslotM (opp r)) (.dma (asendS r))) (.dma (arecvS (opp r)))
    (Memref.isWhole_whole _).wordExact ((View.wordExact_bits rfl).reshape _ _) ⟨⟨rfl, Or.inl rfl⟩, trivial⟩)
/-- Wait for a maximum and read it. -/
def maxRecv (i : Fin 7) : Tc F (F .f32) := do
  Prog.lift (.waitDma2 (arecvS (nxt i)) asrc (aslotM (nxt i)) (Memref.isWhole_whole _).wordExact ((View.wordExact_bits rfl).reshape _ _))
  let v : Vec F S1x1x1 .f32 ← Prog.lift (.load abuf (acellR (nxt i)).toLoadRect (View.loadsAt_vmem h_S1x1x1))
  pure (lane0 v)
/-- Wait for the `i`-th from the last of the row sends to have left. -/
def rowLeft (d : Dev nD) (i : Fin 7) : Tc F PUnit :=
  Prog.lift (.waitDma2 (bsendS (Fin.rev i)) (slotM (opp (Fin.rev i))) (sendRows d (Fin.rev i)) (((Memref.isWhole_whole _).wordExact_slice rfl _ (words_slot (opp (Fin.rev i)))).reshape _ _) ((Memref.isWhole_whole _).wordExact_slice rfl _ (k0_off1_wordsbf16 d (Fin.rev i))))
/-- Wait for the `r`-th of the maximum's sends to have left. -/
def maxLeft (r : Fin 7) : Tc F PUnit :=
  Prog.lift (.waitDma2 (asendS r) (aslotM (opp r)) asrc ((View.wordExact_bits rfl).reshape _ _) (Memref.isWhole_whole _).wordExact)
/-- Quantise one tile. -/
def quantTile (g : F .f32) (n : Fin 8) : Tc F PUnit := do
  let o : Vec F S512x1024 .f32 ← Prog.lift (.load oM (tileR n).toLoadRect (View.loadsAt_vmem h_S512x1024))
  let _ : Vec F S512x1024 .f32 ← Prog.lift (.load oM (tileR n).toLoadRect (View.loadsAt_vmem h_S512x1024))
  Prog.lift (.store oM (tileR n) (quant g o) Finset.univ (View.stores_vmem_bits_univ h_S512x1024 rfl) (.inl rfl))

/-- The whole body. -/
def body : Tc F PUnit := do
  let d : Dev nD ← Prog.lift .deviceId
  seqN 7 fun r => semSignalWord (sigDev d r) barS 1#32
  stgCopy 0
  stgCopy 1
  seqN 6 stgStep
  stgRound 6
  stgRound 7
  semWaitWord barS 7#32
  seqN 7 fun r => rowSend d (Fin.rev r)
  stepFirst d
  seqN 6 (stepMid d)
  let t ← stepTiles d 7
  let _ : Vec F S8x128 .f32 ← Prog.lift (.load asrc asrcR.toLoadRect (View.loadsAt_vmem h_S8x128))
  Prog.lift (.store asrc asrcR (spread (localMax t)) Finset.univ (View.stores_vmem_bits_univ h_S8x128 rfl) (.inl rfl))
  seqN 7 (maxSend d)
  let b ← collectN 7 maxRecv
  seqN 7 (rowLeft d)
  seqN 7 maxLeft
  seqN 8 (quantTile (globalMax (localMax t) b))

end Cert.KernelIdeal.Amax

end
-- ==== Proof.Base.lean ====
/- The resource algebra the body is run over, what a transfer in flight is, and the rules the steps are taken by: loads, stores, local
   copies and addressed copies of memrefs owned at a value, and the two loops. -/
module

public import proofs.«01_k».proof.Proof.Program
public import Idealize.ShloMosaic.Lib.Pipeline.Launch
public import Idealize.ShloMosaic.Lib.Pipeline.Kit
public import Idealize.ShloMosaic.Lib.Transfers
public import Idealize.ShloMosaic.Lib.Memref

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

/-! ## The algebra -/

/-- The exchange's rounds, their duties named by `Fin 7`, and the counters of the transfers in flight. -/
abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

abbrev 𝒱₀ : Variants := Variants.none

instance ER_landsIn : (ER : Emb UB (MT nD τ sig Unit (Elt F) ℕ UU ℕ)).LandsIn (upEmb : UEmb _ (MT nD τ sig Unit (Elt F) ℕ UU ℕ)) := by
  unfold ER; infer_instance

/-- The weakest precondition of a program on device `c`. -/
abbrev Wp (c : Dev nD) {α : Type} (e : Tc F α) (Q : α → sProp 𝕄) : sProp 𝕄 :=
  wp frame (wpE (defs₀ (F := F)) 𝒱₀ (c : Thread nD τ) none) Set.univ e Q

/-- A memref owned at some value. -/
abbrev ownsE (c : Dev nD) {sp : Space} {s : Shape} {e : EltTy} (m : Memref sig .tc sp s e) : sProp 𝕄 :=
  iprop(∃ Y, owns (c : Thread nD τ) m fullShare Y)

/-! ## Sequencing -/

theorem wp_seq (c : Dev nD) {α β : Type} {e : Tc F α} {k : α → Tc F β} {P R : sProp 𝕄} {S : α → sProp 𝕄} {Q : β → sProp 𝕄}
    (he : P ⊢ Wp c e S) (hk : ∀ a, iprop(S a ∗ R) ⊢ Wp c (k a) Q) : iprop(P ∗ R) ⊢ Wp c (e >>= k) Q := by
  rw [Wp, wp_bind]
  exact ((sep_mono_left he).trans (wp_frame_r _ _ _)).trans (wp_mono _ _ _ hk)

omit [FloatOps F] in
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- A loop whose `i`-th step takes the state from `St i` to `St (i + 1)` and `P i` to `R i`. -/
theorem wp_seqN (c : Dev nD) : ∀ (n : ℕ) (f : Fin n → Tc F PUnit) (St : ℕ → sProp 𝕄) (P R : Fin n → sProp 𝕄)
    (_ : ∀ i : Fin n, iprop(St i.val ∗ P i) ⊢ Wp c (f i) (fun _ => iprop(St (i.val + 1) ∗ R i))),
    iprop(St 0 ∗ bigSep Finset.univ P) ⊢ Wp c (seqN n f) (fun _ => iprop(St n ∗ bigSep Finset.univ R))
  | 0, f, St, P, R, _ => by
    unfold seqN
    rw [Wp, Prog.pure_eq_ret, wp_ret]
    iintro ⟨H, -⟩
    imodintro
    isplitl [H]; · iexact H
    rw [Finset.univ_eq_empty, bigSep_empty]; iempintro
  | n + 1, f, St, P, R, h => by
    have ih := wp_seqN c n (fun i => f i.succ) (fun k => St (k + 1)) (fun i => P i.succ) (fun i => R i.succ) (fun i => h i.succ)
    unfold seqN
    rw [bigSep_fin_succ P, bigSep_fin_succ R]
    refine sep_assoc.2.trans (wp_seq c (h 0) fun _ => ?_)
    refine BIBase.Entails.trans ?_ (((sep_mono_left ih).trans (wp_frame_r (R := R 0) _ _ _)).trans (wp_mono _ _ _ fun _ => ?_))
    · show iprop((St (0 + 1) ∗ R 0) ∗ bigSep Finset.univ fun i : Fin n => P i.succ) ⊢ iprop((St (0 + 1) ∗ bigSep Finset.univ fun i : Fin n => P i.succ) ∗ R 0)
      iintro ⟨⟨H, HR⟩, HP⟩
      isplitl [H HP]
      · isplitl [H]; · iexact H
        iexact HP
      iexact HR
    · iintro ⟨⟨H, HP⟩, HR⟩
      isplitl [H]; · iexact H
      isplitl [HR]; · iexact HR
      iexact HP

/-- The gathering loop, its `i`-th step returning `v i`. -/
theorem wp_collectN (c : Dev nD) {α : Type} : ∀ (n : ℕ) (f : Fin n → Tc F α) (v : Fin n → α) (St : ℕ → sProp 𝕄) (P R : Fin n → sProp 𝕄)
    (_ : ∀ i : Fin n, iprop(St i.val ∗ P i) ⊢ Wp c (f i) (fun a => iprop(⌜a = v i⌝ ∗ St (i.val + 1) ∗ R i))),
    iprop(St 0 ∗ bigSep Finset.univ P) ⊢ Wp c (collectN n f) (fun a => iprop(⌜a = v⌝ ∗ St n ∗ bigSep Finset.univ R))
  | 0, f, v, St, P, R, _ => by
    unfold collectN
    rw [Wp, Prog.pure_eq_ret, wp_ret]
    iintro ⟨H, -⟩
    imodintro
    isplitr; · ipureintro; exact funext fun i => i.elim0
    isplitl [H]; · iexact H
    rw [Finset.univ_eq_empty, bigSep_empty]; iempintro
  | n + 1, f, v, St, P, R, h => by
    have ih := wp_collectN c n (fun i => f i.succ) (fun i => v i.succ) (fun k => St (k + 1)) (fun i => P i.succ) (fun i => R i.succ)
      (fun i => h i.succ)
    unfold collectN
    rw [bigSep_fin_succ P, bigSep_fin_succ R]
    refine sep_assoc.2.trans (wp_seq c (h 0) fun a => ?_)
    refine BIBase.Entails.trans ?_ (wp_seq c (R := iprop(⌜a = v 0⌝ ∗ R 0)) ih fun b => ?_)
    · show iprop((⌜a = v 0⌝ ∗ St (0 + 1) ∗ R 0) ∗ bigSep Finset.univ fun i : Fin n => P i.succ) ⊢ _
      iintro ⟨⟨%ha, H, HR⟩, HP⟩
      isplitl [H HP]
      · isplitl [H]; · iexact H
        iexact HP
      isplitr; · ipureintro; exact ha
      iexact HR
    · rw [Wp, Prog.pure_eq_ret, wp_ret]
      iintro ⟨⟨%hb, H, HP⟩, %ha, HR⟩
      imodintro
      isplitr
      · ipureintro
        subst ha hb
        exact Fin.cons_self_tail v
      isplitl [H]; · iexact H
      isplitl [HR]; · iexact HR
      iexact HP

/-! ## Loads and stores -/

section Access

variable (c : Dev nD) {α : Type} {cs : CoreSpace} {s : Shape} {e : EltTy} {m : Memref sig .tc cs s e} {r : Rect s}

/-- A load at a rectangle whose slice is owned at `X` reads `X`. -/
theorem wp_load_slice {Q : α → sProp 𝕄} (hr : ∀ a, r.stride a = 1) {q : PosShare TreeShare} {X : r.shape.Idx → Elt F e} {hl : m.view.LoadsAt r.toLoadRect}
    {k : (r.shape.Idx → Elt F e) → Tc F α} :
    (owns (c : Thread nD τ) (m.slice r hr) q X : sProp 𝕄)
      ⊢ iprop((owns (c : Thread nD τ) (m.slice r hr) q X -∗ Wp c (k X) Q) -∗ Wp c (.op (.load m r.toLoadRect hl) k) Q) := by
  unfold owns
  iintro ⟨%f, %hf, H⟩ Hk
  iapply (wp_load_rect 𝒱₀ (c : Thread nD τ) none Set.univ (m := m) (r := r) (hl := hl) (k := k) (S := (m.access r).set) (Finset.Subset.refl _)) $$ H
  iintro H
  have hf' : (m.access r).read (Elt F) f = X := hf
  rw [hf']
  iapply Hk
  iexists f
  isplitr; · ipureintro; exact hf
  iexact H

/-- A load at a rectangle inside a squeezed slice that is owned, whose value there is a function of what the slice reads. -/
theorem wp_load_within {Q : α → sProp 𝕄} {r₀ : Rect s} {hr₀ : ∀ a, r₀.stride a = 1} {s' : Shape} {hq : r₀.shape.Squeezes s'} (hsub : r.set ⊆ r₀.set)
    {q : PosShare TreeShare} {X : s'.Idx → Elt F e} (Y : r.shape.Idx → Elt F e)
    (hval : ∀ f, ((m.slice r₀ hr₀).squeeze s' hq).view.read (Elt F) f = X → (m.access r).read (Elt F) f = Y)
    {hl : m.view.LoadsAt r.toLoadRect} {k : (r.shape.Idx → Elt F e) → Tc F α} :
    (owns (c : Thread nD τ) ((m.slice r₀ hr₀).squeeze s' hq) q X : sProp 𝕄)
      ⊢ iprop((owns (c : Thread nD τ) ((m.slice r₀ hr₀).squeeze s' hq) q X -∗ Wp c (k Y) Q) -∗ Wp c (.op (.load m r.toLoadRect hl) k) Q) := by
  unfold owns
  iintro ⟨%f, %hf, H⟩ Hk
  iapply (wp_load_rect 𝒱₀ (c : Thread nD τ) none Set.univ (m := m) (r := r) (hl := hl) (k := k)
    (S := ((m.slice r₀ hr₀).squeeze s' hq).view.set) (by
      have h : ((m.slice r₀ hr₀).squeeze s' hq).view.set = (m.view.slice r₀).set := View.set_reshape _ _
      refine Finset.Subset.trans ?_ (Finset.Subset.antisymm_iff.mp h).2
      exact (View.set_slice m.view r).symm ▸ (View.set_slice m.view r₀).symm ▸ Finset.map_subset_map.mpr hsub)) $$ H
  iintro H
  rw [hval f hf]
  iapply Hk
  iexists f
  isplitr; · ipureintro; exact hf
  iexact H

/-- A store at a rectangle whose slice is owned leaves it owned at what was stored. -/
theorem wp_store_slice {Q : α → sProp 𝕄} (hr : ∀ a, r.stride a = 1) {X w : r.shape.Idx → Elt F e} {hx : (m.access r).Stores Finset.univ}
    {hm : (Finset.univ : Finset r.shape.Idx) = Finset.univ ∨ ∀ a, r.stride a = 1} {k : PUnit → Tc F α} :
    (owns (c : Thread nD τ) (m.slice r hr) fullShare X : sProp 𝕄)
      ⊢ iprop((owns (c : Thread nD τ) (m.slice r hr) fullShare w -∗ Wp c (k ⟨⟩) Q) -∗ Wp c (.op (.store m r w Finset.univ hx hm) k) Q) := by
  unfold owns
  iintro ⟨%f, %hf, H⟩ Hk
  iapply (wp_store 𝒱₀ (c : Thread nD τ) none Set.univ (m := m) (r := r) (w := w) (Mk := Finset.univ) (hx := hx) (k := k) (S := (m.access r).set)
    (Finset.Subset.refl _)) $$ H
  iintro H
  iapply Hk
  iexists (m.access r).write (Elt F) f w Finset.univ
  isplitr; · ipureintro; exact View.read_write_univ _ _
  iexact H

end Access

/-! ## Transfers -/

section Transfer

variable (c : Dev nD) {α : Type} {sp sp' : Space} {s : Shape} {e : EltTy}

/-- A local copy: the source comes back, and the destination holds it, when it is waited for. -/
theorem wp_copy_here {Q : α → sProp 𝕄} {src : Memref sig .tc sp s e} {dst : Memref sig .tc sp' s e} {sm : DmaSem sig} {hsrc : src.view.WordExact}
    {hdst : dst.view.WordExact} {hsem : DmaTarget.Typed (nD := nD) (τ := τ) (p := .tc) sp (.dma sm) (.here dst)} {k : PUnit → Tc F α}
    {q : PosShare TreeShare} {X : s.Idx → Elt F e} (hs : 0 < s.numel) :
    iprop(owns (c : Thread nD τ) src q X ∗ ownsE c dst ∗ semVal ((c : Thread nD τ), .dma sm) 0)
      ⊢ iprop((Flight EC (c : Thread nD τ) (.dma sm) () dst.view.dmaCredit
                  iprop(owns (c : Thread nD τ) dst fullShare X ∗ owns (c : Thread nD τ) src q X) -∗ Wp c (k ⟨⟩) Q)
          -∗ Wp c (.op (.enqueueDma src (.here dst) (.dma sm) hsrc hdst hsem) k) Q) := by
  iintro ⟨Hs, ⟨%Y, Hd⟩, Hv⟩ Hk
  unfold owns
  icases Hs with ⟨%fs, %hfs, Hs⟩
  icases Hd with ⟨%fd, %hfd, Hd⟩
  imod (flight_alloc EC (View.dmaCredit_pos dst.view hs) iprop((dst.view.loc (c : Thread nD τ) ↦[dst.view.set]{fullShare} (dst.view.write (Elt F) fd (src.view.read (Elt F) fs) Finset.univ))
      ∗ (src.view.loc (c : Thread nD τ) ↦[src.view.set]{q} fs)) (g := ((c : Thread nD τ), .dma sm))) $$ Hv with ⟨%γ, %δ, %κ, #Hinv, Hγ, Hδ⟩
  iapply (wp_enqueueDma_pointsTo 𝒱₀ (c : Thread nD τ) none Set.univ () dst.view.dmaCredit rfl) $$ [Hs Hd] [Hγ]
  · isplitl [Hs]; · iexact Hs
    iexact Hd
  · iapply (flight_creditUpdate EC (δ := δ))
    isplitr; · iexact Hinv
    iexact Hγ
  iintro Hcred
  iapply Hk
  iapply (Flight_mono EC (c : Thread nD τ) (D := iprop((dst.view.loc (c : Thread nD τ) ↦[dst.view.set]{fullShare} (dst.view.write (Elt F) fd (src.view.read (Elt F) fs) Finset.univ))
      ∗ (src.view.loc (c : Thread nD τ) ↦[src.view.set]{q} fs))) (by
    iintro ⟨Hd, Hs⟩
    isplitl [Hd]
    · iexists (dst.view.write (Elt F) fd (src.view.read (Elt F) fs) Finset.univ)
      isplitr; · ipureintro; rw [View.read_write_univ, hfs]
      iexact Hd
    · iexists fs
      isplitr; · ipureintro; exact hfs
      iexact Hs))
  iapply (flight_intro EC (c : Thread nD τ) (κ := κ))
  isplitr; · iexact Hinv
  isplitl [Hδ]; · iexact Hδ
  iexact Hcred

/-- The wait for a transfer in flight. -/
theorem wp_wait_flight {Q : α → sProp 𝕄} {s' : Shape} {e' : EltTy} {sm : DmaSem sig} {srcw : Memref sig .tc sp' s' e'} {dstw : Memref sig .tc sp s e}
    {hsrc : srcw.view.WordExact} {hdst : dstw.view.WordExact} {k : PUnit → Tc F α} {N : ℕ} (hN : dstw.view.dmaCredit = N) {D : sProp 𝕄}
    {O : CellTallies nD τ sig Unit} {W : Waits sig Unit} :
    iprop(Flight EC (c : Thread nD τ) (.dma sm) () N D ∗ owes (c : Thread nD τ) O W ∗ MayWait (c : Thread nD τ) (.dma sm) () O)
      ⊢ iprop((iprop(D ∗ semVal ((c : Thread nD τ), .dma sm) 0 ∗ owes (c : Thread nD τ) O (insert (SemLoc.dma sm, ()) W)) -∗ Wp c (k ⟨⟩) Q)
          -∗ Wp c (.op (.waitDma2 sm srcw dstw hsrc hdst) k) Q) :=
  wp_waitLocalO EC 𝒱₀ (c : Thread nD τ) none () hN

/-- A copy to another device's memory: the source comes back when the send is waited for, and the landing pays the
    receiving cell's duty. -/
theorem wp_copy_there {Q : α → sProp 𝕄} {c' : Dev nD} {src : Memref sig .tc sp s e} {dst : Memref sig .tc sp' s e} {hsc : dst.view.ref.isScScratch = false}
    {sS sR : DmaSem sig} {hsrc : src.view.WordExact} {hdst : dst.view.WordExact}
    {hsem : DmaTarget.Typed (nD := nD) (τ := τ) (p := .tc) sp (.dma sR) (.remote (Dev.tc c' : Thread nD τ) dst (.dma sS) hsc)}
    {k : PUnit → Tc F α} {q : PosShare TreeShare} {X : s.Idx → Elt F e} (hs : 0 < s.numel)
    (Rd : Rounds.Schedule (GSem nD τ sig) (Fin 7) 𝕄) [∀ g r d, BI.Storable (upEmb : UEmb _ 𝕄) (Rd.payload g r d)] {κ : ℕ} {d : Fin 7}
    (hd : d ∈ Rd.duties ((c' : Thread nD τ), .dma sR) 0) (hN : Rd.amount ((c' : Thread nD τ), .dma sR) 0 d = dst.view.dmaCredit)
    (hpay : (owns (c' : Thread nD τ) dst fullShare X : sProp 𝕄) ⊢ Rd.payload ((c' : Thread nD τ), .dma sR) 0 d)
    {O₀ : CellTallies nD τ sig Unit} (O : CellTallies nD τ sig Unit)
    (hO : O₀ = O + tallyAt ((c' : Thread nD τ), .dma sR) () dst.view.dmaCredit) {W : Waits sig Unit} (hr : τ.routes (c : Thread nD τ) (c' : Thread nD τ) = true) :
    iprop(cellInv ER Rd κ ((c' : Thread nD τ), .dma sR) ∗ dutyTok ER ((c' : Thread nD τ), .dma sR) 0 d ∗ reached ER ((c' : Thread nD τ), .dma sR) 0
        ∗ owns (c : Thread nD τ) src q X ∗ ownsE c' dst ∗ semVal ((c : Thread nD τ), .dma sS) 0 ∗ owes (c : Thread nD τ) O₀ W)
      ⊢ iprop(((Flight EC (c : Thread nD τ) (.dma sS) () dst.view.dmaCredit (owns (c : Thread nD τ) src q X) ∗ owes (c : Thread nD τ) O W) -∗ Wp c (k ⟨⟩) Q)
          -∗ Wp c (.op (.enqueueDma src (.remote (Dev.tc c' : Thread nD τ) dst (.dma sS) hsc) (.dma sR) hsrc hdst hsem) k) Q) := by
  iintro ⟨#Hi, Ht, #Hr, Hs, ⟨%Y, Hd⟩, Hv, HO⟩ Hk
  unfold owns
  icases Hs with ⟨%fs, %hfs, Hs⟩
  icases Hd with ⟨%fd, %hfd, Hd⟩
  imod (flight_alloc EC (View.dmaCredit_pos dst.view hs) (src.view.loc (c : Thread nD τ) ↦[src.view.set]{q} fs) (g := ((c : Thread nD τ), .dma sS))) $$ Hv
    with ⟨%γ, %δ, %κ', #Hinv, Hγ, Hδ⟩
  iapply (wp_enqueueDma_remote_pointsTo 𝒱₀ (c : Thread nD τ) none Set.univ (c' := (c' : Thread nD τ)) () () O dst.view.dmaCredit rfl hO hr)
    $$ [Hs Hd HO] [Hγ] [Ht]
  · isplitl [Hs]; · iexact Hs
    isplitl [Hd]; · iexact Hd
    iexact HO
  · iapply (flight_creditUpdate EC (δ := δ))
    isplitr; · iexact Hinv
    iexact Hγ
  · rw [← hN]
    iapply (land_credit ER Rd hd (show (dst.view.loc (c' : Thread nD τ) ↦[dst.view.set]{fullShare} (dst.view.write (Elt F) fd (src.view.read (Elt F) fs) Finset.univ) : sProp 𝕄)
        ⊢ Rd.payload ((c' : Thread nD τ), .dma sR) 0 d from BIBase.Entails.trans (by
          unfold owns
          iintro Hd
          iexists (dst.view.write (Elt F) fd (src.view.read (Elt F) fs) Finset.univ)
          isplitr; · ipureintro; rw [View.read_write_univ, hfs]
          iexact Hd) hpay))
    isplitr; · iexact Hi
    isplitl [Ht]; · iexact Ht
    iexact Hr
  iintro ⟨Hcred, HO⟩
  iapply Hk
  isplitl [Hδ Hcred]
  · iapply (Flight_mono EC (c : Thread nD τ) (D := (src.view.loc (c : Thread nD τ) ↦[src.view.set]{q} fs)) (by
      iintro Hs
      iexists fs
      isplitr; · ipureintro; exact hfs
      iexact Hs))
    iapply (flight_intro EC (c : Thread nD τ) (κ := κ'))
    isplitr; · iexact Hinv
    isplitl [Hδ]; · iexact Hδ
    iexact Hcred
  iexact HO

end Transfer

end Cert.KernelIdeal.Amax

end
-- ==== Proof.Contents.lean ====
/- What every buffer holds during the body, as functions of the launch memory: the row blocks, the products summed so far, the maxima
   and the result; and where the printed offsets and device numbers point. -/
module

public import proofs.«01_k».proof.Proof.Program
public import Idealize.ShloMosaic.Lib.Writes

@[expose] public section

noncomputable section

namespace Cert.KernelIdeal.Amax

open Idealize.ShloMosaic Idealize.ShloMosaic.TcCoe
open Idealize.SL Idealize.SL.Sem
open Cert.KernelIdeal.Gen

variable {F : FTy → Type} [FloatOps F]

/-! ## The ring of devices -/

/-- The device `k` places after `c`. -/
def far (c : Dev nD) (k : Fin 8) : Dev nD := ⟨(c.val + k.val) % 8, Nat.mod_lt _ (by decide)⟩

theorem sigDev_eq : ∀ (d : Dev nD) (r : Fin 7), sigDev d r = far d (nxt r) := by decide
theorem rowDev_eq : ∀ (d : Dev nD) (r : Fin 7), rowDev d r = far d (nxt r) := by decide
theorem maxDev_eq : ∀ (d : Dev nD) (r : Fin 7), maxDev d r = far d (nxt r) := by decide
theorem far_zero : ∀ d : Dev nD, far d 0 = d := by decide
theorem opp_eq : ∀ r : Fin 7, opp r = nxt (Fin.rev r) := by decide
theorem far_back : ∀ (d : Dev nD) (r : Fin 7), far (far d (nxt r)) (nxt (Fin.rev r)) = d := by decide

/-- Step `k`, counted without a bound. -/
abbrev at8 (k : ℕ) : Fin 8 := ⟨k % 8, Nat.mod_lt _ (by decide)⟩
theorem at8_val (k : Fin 8) : at8 k.val = k := Fin.ext (Nat.mod_eq_of_lt k.isLt)

/-! ## The offsets -/

theorem inb_wblk : ∀ j : Fin 8, ∀ a, (![512 * j.val, 0] : Fin 2 → Nat) a + S512x8192.size a ≤ S4096x8192.size a := by decide
/-- Row block `j` of `w`. -/
abbrev wblkR (j : Fin 8) : Rect S4096x8192 := Rect.unit (s := S4096x8192) ![512 * j.val, 0] S512x8192.size (inb_wblk j)

theorem off_send : ∀ (d : Dev nD) (r : Fin 7), k0_off1 d (BitVec.ofNat 32 (1 + r.val)) = ![512 * (far d (nxt r)).val, 0] := by decide
theorem off_wrows : ∀ (d : Dev nD) (k : Fin 8), k0_off2 d (BitVec.ofNat 32 k.val) = ![512 * (far d k).val, 0] := by decide

theorem sendRows_eq (d : Dev nD) (r : Fin 7) : sendRows d r = xbf.slice (rowsR (far d (nxt r))) (fun _ => rfl) :=
  Memref.slice_unit_congr _ (off_send d r) _ _ _ _
theorem ownR_eq (d : Dev nD) : ownR d = rowsR d := by
  unfold ownR rowsR; congr 1; exact k0_off3_eq d
theorem wRows_eq (d : Dev nD) (k : Fin 8) : wRows d k = wA.slice (wblkR (far d k)) (fun _ => rfl) :=
  Memref.slice_unit_congr _ (off_wrows d k) _ _ _ _

/-! ## Contents -/

/-- Values over a shape with unit axes dropped, put back over the shape with them. -/
def unsq {α : Type} {s s' : Shape} (h : s.Squeezes s') (X : s'.Idx → α) : s.Idx → α := fun z => X ((Shape.reshapeEquiv h.numel_eq).symm z)

variable (m : (ℓ : Loc nD τ sig) → Buf (Elt F) ℓ)

/-- The device's block of `x`, and its copy of `w`. -/
def xIn (c : Dev nD) : S4096x512.Idx → Elt F .f32 := V m c main_arg0
def wIn (c : Dev nD) : S4096x8192.Idx → Elt F .f32 := V m c main_arg1

/-- Row block `j` of the device's block of `x`, -/
def xRow (c : Dev nD) (j : Fin 8) : S512x512.Idx → Elt F .f32 := fun y => xIn m c ((rowsR j).emb y)
/-- the same rounded, -/
def xbfRow (c : Dev nD) (j : Fin 8) : S512x512.Idx → Elt F .bf16 := roundX (unsq squeezes_S1x512x512_S512x512 (xRow m c j))
/-- and row block `j` of `w`. -/
def wRow (c : Dev nD) (j : Fin 8) : S512x8192.Idx → Elt F .f32 := fun y => wIn m c ((wblkR j).emb y)
/-- Columns `1024 n` to `1024 (n + 1)` of a row block of `w`, as they are loaded. -/
def wTile (X : S512x8192.Idx → Elt F .f32) (n : Fin 8) : S1x512x1024.Idx → Elt F .f32 :=
  shapeCast S1x512x1024 (fun y : S512x1024.Idx => X ((tileR n).emb y)) (by decide)

/-- The rows device `c` receives from the device `k` places after it. -/
def sentRow (c : Dev nD) (k : Fin 8) : S512x512.Idx → Elt F .bf16 := xbfRow m (far c k) c

/-- What tile `n` of the output holds after step `k`. -/
def acc (c : Dev nD) : ℕ → Fin 8 → FVec F S512x1024 .f32
  | 0, n => prod (ownX (xbfRow m c c)) (wTile (wRow m c (far c 0)) n)
  | k + 1, n => accum (recvX (unsq squeezes_S1x512x512_S512x512 (sentRow m c (at8 (k + 1))))) (wTile (wRow m c (far c (at8 (k + 1)))) n) (acc c k n)

/-- The largest magnitude of the device's rows of the product, and of the whole product. -/
def lmax (c : Dev nD) : F .f32 := localMax (acc m c 7)
def gmax (c : Dev nD) : F .f32 := globalMax (lmax m c) fun i => lmax m (far c (nxt i))

/-- Tile `n` of the result. -/
def outTile (c : Dev nD) (n : Fin 8) : FVec F S512x1024 .f32 := quant (gmax m c) (acc m c 7 n)

theorem acc_next (c : Dev nD) (r : Fin 7) (n : Fin 8) :
    accum (recvX (unsq squeezes_S1x512x512_S512x512 (sentRow m c (nxt r)))) (wTile (wRow m c (far c (nxt r))) n) (acc m c r.val n) = acc m c (r.val + 1) n := by
  have h : at8 (r.val + 1) = nxt r := at8_val (nxt r)
  show _ = accum (recvX (unsq squeezes_S1x512x512_S512x512 (sentRow m c (at8 (r.val + 1))))) (wTile (wRow m c (far c (at8 (r.val + 1)))) n) (acc m c r.val n)
  rw [h]

end Cert.KernelIdeal.Amax

end
-- ==== Proof.Protocol.lean ====
/- The exchange as a protocol: per device one barrier cell with seven one-unit duties, seven cells that a block of rows lands on and seven
   that a maximum lands on; what each landing hands over; what every device owes at launch, and the order of the waits. -/
module

public import proofs.«01_k».proof.Proof.Base
public import proofs.«01_k».proof.Proof.Contents

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## The cells -/

/-- A device's cells: its barrier; the seven slots of rows; the seven slots of maxima. -/
abbrev Kind' : Type := Unit ⊕ (Fin 7 ⊕ Fin 7)
abbrev kBar : Kind' := .inl ()
abbrev kRow (i : Fin 7) : Kind' := .inr (.inl i)
abbrev kMax (i : Fin 7) : Kind' := .inr (.inr i)

@[reducible] def semOf : Kind' → SemLoc sig
  | .inl _ => .reg barS
  | .inr (.inl i) => .dma (brecvS (nxt i))
  | .inr (.inr i) => .dma (arecvS (nxt i))

/-- Which of the cells a semaphore is, if any. -/
def kindOf : SemLoc sig → Option Kind'
  | .reg _ => some kBar
  | .dma q =>
    if h : 9 ≤ q.val ∧ q.val < 16 then some (kRow ⟨q.val - 9, by omega⟩)
    else if h : 28 ≤ q.val ∧ q.val < 35 then some (kMax ⟨q.val - 28, by omega⟩) else none

theorem kindOf_semOf : ∀ k : Kind', kindOf (semOf k) = some k := by decide
theorem semOf_injective : Function.Injective semOf := fun a b h =>
  Option.some.inj ((kindOf_semOf a).symm.trans ((congrArg kindOf h).trans (kindOf_semOf b)))

abbrev cell (c : Dev nD) (k : Kind') : GSem nD τ sig := ((c : Thread nD τ), semOf k)

theorem cell_injective : Function.Injective fun ck : Dev nD × Kind' => cell ck.1 ck.2 := by
  rintro ⟨c, k⟩ ⟨c', k'⟩ h
  have h1 : c = c' := congrArg (fun g : GSem nD τ sig => g.1.1) h
  have h2 : k = k' := semOf_injective (congrArg Prod.snd h)
  rw [h1, h2]

/-- What a block of rows, and a maximum, credit. -/
abbrev NB : ℕ := (slotM 0).view.dmaCredit
abbrev NA : ℕ := (aslotM 0).view.dmaCredit
theorem NB_pos : 0 < NB := View.dmaCredit_pos _ (by decide)
theorem NA_pos : 0 < NA := View.dmaCredit_pos _ (by decide)

/-! ## The schedule -/

variable (m : (ℓ : Loc nD τ sig) → Buf (Elt F) ℓ)

/-- What the `r`-th signal to `c` hands over: the two slots of the signalling device that `c` will fill. -/
def barPay (c : Dev nD) (r : Fin 7) : sProp 𝕄 :=
  iprop(ownsE (far c (nxt (Fin.rev r))) (slotM (nxt r)) ∗ ownsE (far c (nxt (Fin.rev r))) (aslotM (nxt r)))
/-- What landing in slot `i + 1` hands over: the rows of the device that far on, -/
def rowPay (c : Dev nD) (i : Fin 7) : sProp 𝕄 := owns (c : Thread nD τ) (slotM (nxt i)) fullShare (sentRow m c (nxt i))
/-- and its maximum. -/
def maxPay (c : Dev nD) (i : Fin 7) : sProp 𝕄 := owns (c : Thread nD τ) (aslotM (nxt i)) fullShare (spread (lmax m (far c (nxt i))))

omit [FloatOps F] in
instance barPay_storable (c : Dev nD) (r : Fin 7) : BI.Storable (upEmb : UEmb _ 𝕄) (barPay (F := F) c r) := by unfold barPay; infer_instance
instance rowPay_storable (c : Dev nD) (i : Fin 7) : BI.Storable (upEmb : UEmb _ 𝕄) (rowPay m c i) := by unfold rowPay; infer_instance
instance maxPay_storable (c : Dev nD) (i : Fin 7) : BI.Storable (upEmb : UEmb _ 𝕄) (maxPay m c i) := by unfold maxPay; infer_instance

def dutiesOf : Option Kind' → Finset (Fin 7)
  | none => ∅ | some (.inl _) => Finset.univ | some (.inr _) => {0}
def amountOf' : Option Kind' → ℕ
  | some (.inr (.inl _)) => NB | some (.inr (.inr _)) => NA | _ => 1
def payOf (c : Dev nD) : Option Kind' → Fin 7 → sProp 𝕄
  | some (.inl _), r => barPay c r
  | some (.inr (.inl i)), _ => rowPay m c i
  | some (.inr (.inr i)), _ => maxPay m c i
  | none, _ => iprop(emp)

/-- One round. -/
def rd : Rounds.Schedule (GSem nD τ sig) (Fin 7) 𝕄 where
  duties g r := if r = 0 ∧ g.1.2 = .tc then dutiesOf (kindOf g.2) else ∅
  unitless _ := False
  amount g _ _ := amountOf' (kindOf g.2)
  payload g _ d := payOf m g.1.1 (kindOf g.2) d
  amount_pos g _ _ _ := by
    rcases kindOf g.2 with _ | _ | _ | _
    · exact Nat.one_pos
    · exact Nat.one_pos
    · exact NB_pos
    · exact NA_pos

instance rd_payload_storable (g : GSem nD τ sig) (r : ℕ) (d : Fin 7) : BI.Storable (upEmb : UEmb _ 𝕄) ((rd m).payload g r d) := by
  show BI.Storable upEmb (payOf m g.1.1 (kindOf g.2) d)
  rcases kindOf g.2 with _ | _ | _ | _ <;> unfold payOf <;> infer_instance

section Sched
variable (c : Dev nD)

theorem rd_duties (k : Kind') : (rd m).duties (cell c k) 0 = dutiesOf (some k) := by
  show (if (0 = 0 ∧ (Kind.tc : Kind) = .tc) then dutiesOf (kindOf (semOf k)) else ∅) = _
  rw [if_pos ⟨rfl, rfl⟩, kindOf_semOf]
theorem rd_amount (k : Kind') (d : Fin 7) : (rd m).amount (cell c k) 0 d = amountOf' (some k) := by
  show amountOf' (kindOf (semOf k)) = _
  rw [kindOf_semOf]
theorem rd_payload (k : Kind') (d : Fin 7) : (rd m).payload (cell c k) 0 d = payOf m c (some k) d := by
  show payOf m c (kindOf (semOf k)) d = _
  rw [kindOf_semOf]
theorem rd_later (g : GSem nD τ sig) : ∀ r, 1 ≤ r → (rd m).duties g r = ∅ := fun r hr => if_neg fun h => by omega

/-- What a cell expects. -/
def expectOf : Kind' → ℕ
  | .inl _ => 7 | .inr (.inl _) => NB | .inr (.inr _) => NA
theorem rd_expect (k : Kind') : (rd m).expect (cell c k) 0 = expectOf k := by
  unfold Schedule.expect Schedule.amountOf
  rw [rd_duties, Finset.sum_congr rfl fun d _ => rd_amount m c k d, Finset.sum_const]
  rcases k with _ | _ | _
  · rfl
  · exact Nat.one_mul _
  · exact Nat.one_mul _

theorem rest_bar : bigSep ((rd m).duties (cell c kBar) 0 \ ∅) (fun d => (rd m).payload (cell c kBar) 0 d)
    = (bigSep Finset.univ fun r : Fin 7 => iprop(ownsE (F := F) (far c (nxt r)) (slotM (opp r)) ∗ ownsE (far c (nxt r)) (aslotM (opp r))) : sProp 𝕄) := by
  rw [Finset.sdiff_empty, rd_duties, show dutiesOf (some kBar) = Finset.univ from rfl, bigSep_congr fun d _ => rd_payload m c kBar d,
    bigSep_univ_equiv Fin.revPerm]
  refine bigSep_congr fun r _ => ?_
  show barPay c (Fin.rev r) = _
  unfold barPay
  rw [Fin.rev_rev, opp_eq]
theorem rest_row (i : Fin 7) : bigSep ((rd m).duties (cell c (kRow i)) 0 \ ∅) (fun d => (rd m).payload (cell c (kRow i)) 0 d) = rowPay m c i := by
  rw [Finset.sdiff_empty, rd_duties, show dutiesOf (some (kRow i)) = {0} from rfl, bigSep_singleton, rd_payload]; rfl
theorem rest_max (i : Fin 7) : bigSep ((rd m).duties (cell c (kMax i)) 0 \ ∅) (fun d => (rd m).payload (cell c (kMax i)) 0 d) = maxPay m c i := by
  rw [Finset.sdiff_empty, rd_duties, show dutiesOf (some (kMax i)) = {0} from rfl, bigSep_singleton, rd_payload]; rfl

end Sched

/-! ## What is owed -/

abbrev barO (c : Dev nD) (r : Fin 7) : CellTallies nD τ sig Unit := tallyAt (cell (far c (nxt r)) kBar) () 1
abbrev rowO (c : Dev nD) (r : Fin 7) : CellTallies nD τ sig Unit := tallyAt (cell (far c (nxt r)) (kRow (Fin.rev r))) () NB
abbrev maxO (c : Dev nD) (r : Fin 7) : CellTallies nD τ sig Unit := tallyAt (cell (far c (nxt r)) (kMax (Fin.rev r))) () NA

/-- What is left of a family of debts after the first `n` are paid. -/
def left (f : Fin 7 → CellTallies nD τ sig Unit) (n : ℕ) : CellTallies nD τ sig Unit := ∑ i with n ≤ i.val, f i

theorem left_step (f : Fin 7 → CellTallies nD τ sig Unit) (i : Fin 7) : left f i.val = left f (i.val + 1) + f i := by
  unfold left
  have h : (Finset.univ.filter fun j : Fin 7 => i.val ≤ j.val) = insert i (Finset.univ.filter fun j : Fin 7 => i.val + 1 ≤ j.val) := by
    revert i; decide
  rw [h, Finset.sum_insert (by simp), add_comm]
theorem left_end (f : Fin 7 → CellTallies nD τ sig Unit) : left f 7 = 0 := by
  unfold left
  rw [show (Finset.univ.filter fun j : Fin 7 => 7 ≤ j.val) = ∅ from by decide, Finset.sum_empty]
theorem left_zero (f : Fin 7 → CellTallies nD τ sig Unit) : left f 0 = ∑ i, f i := by
  unfold left
  rw [show (Finset.univ.filter fun j : Fin 7 => 0 ≤ j.val) = Finset.univ from by decide]

/-- The rows owed, in the order they are sent, and the maxima. -/
abbrev owedRows (c : Dev nD) (n : ℕ) : CellTallies nD τ sig Unit := left (fun i => rowO c (Fin.rev i)) n
abbrev owedMax (c : Dev nD) (n : ℕ) : CellTallies nD τ sig Unit := left (maxO c) n
abbrev owedBar (c : Dev nD) (n : ℕ) : CellTallies nD τ sig Unit := left (barO c) n
/-- What device `c` owes at launch. -/
def O₀ (c : Dev nD) : CellTallies nD τ sig Unit := (owedMax c 0 + owedRows c 0) + owedBar c 0

/-! ## The order of the waits -/

def L (g : GSem nD τ sig) : Finset Unit := if g.1.2 = .tc then {()} else ∅
def levOf : Option Kind' → ℕ
  | none => 0 | some (.inl _) => 1 | some (.inr (.inl _)) => 2 | some (.inr (.inr _)) => 3
def lv (g : GSem nD τ sig) (_ : Unit) : ℕ := levOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind') : lv (cell c k) () = levOf (some k) := by
  show levOf (kindOf (semOf k)) = _; rw [kindOf_semOf]

/-- Everything owed lies above level `n`. -/
def Above (n : ℕ) (O : CellTallies nD τ sig Unit) : Prop := ∀ (g : GSem nD τ sig) (u : Unit), 0 < O g u → g.1.2 = .tc ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tally {n : ℕ} (c : Dev nD) (k : Kind') (N : ℕ) (h : n < levOf (some k)) : Above n (tallyAt (cell c k) () N) := fun g u hp => by
  rw [tallyAt_apply] at hp
  by_cases hg : g = cell c k ∧ u = ()
  · rw [hg.1]; exact ⟨rfl, by rw [lv_cell]; exact h⟩
  · rw [if_neg hg] at hp; exact absurd hp (Nat.lt_irrefl 0)
theorem Above.left {n : ℕ} {f : Fin 7 → CellTallies nD τ sig Unit} (h : ∀ i, Above n (f i)) (k : ℕ) : Above n (left f k) := by
  unfold Amax.left
  exact Finset.sum_induction f (Above n) (fun _ _ => Above.add) (Above.zero n) fun i _ => h i

theorem above_max (c : Dev nD) (k : ℕ) {n : ℕ} (h : n < 3) : Above n (owedMax c k) := Above.left (fun _ => Above.tally _ _ _ h) k
theorem above_rows (c : Dev nD) (k : ℕ) {n : ℕ} (h : n < 2) : Above n (owedRows c k) := Above.left (fun _ => Above.tally _ _ _ h) k
theorem above_bar (c : Dev nD) (k : ℕ) : Above 0 (owedBar c k) := Above.left (fun _ => Above.tally _ _ _ Nat.one_pos) k

omit [FloatOps F] in
theorem mayWait (c : Dev nD) (sm : SemLoc sig) (O : CellTallies nD τ sig Unit) (h : Above (levOf (kindOf sm)) O) :
    (levAts L lv : sProp 𝕄) ⊢ MayWait (c : Thread nD τ) sm () O :=
  MayOwe.of_cut (L := L) (lev := lv) (levOf (kindOf sm)) (fun p hp => by rw [Finset.mem_singleton.mp hp, L_tc]; exact Finset.mem_singleton_self _)
    (fun g u hg => by
      have := (h g u hg).1
      unfold L; rw [if_pos this]; exact Finset.mem_singleton_self _)
    (fun p hp => by rw [Finset.mem_singleton.mp hp]; exact le_refl _)
    (fun g u hg => (h g u hg).2)

/-! ## The records every device reads -/

/-- Every cell's invariant, and that every cell has reached its round. -/
def records (K : Dev nD × Kind' → ℕ) : sProp 𝕄 :=
  iprop((bigSep Finset.univ fun ck : Dev nD × Kind' => cellInv ER (rd m) (K ck) (cell ck.1 ck.2))
    ∗ (bigSep Finset.univ fun ck : Dev nD × Kind' => reached ER (cell ck.1 ck.2) 0) ∗ levAts L lv)

instance records_persistent (K : Dev nD × Kind' → ℕ) : BI.Persistent (records m K) := by unfold records; infer_instance

theorem records_inv (K : Dev nD × Kind' → ℕ) (c : Dev nD) (k : Kind') : records m K ⊢ cellInv ER (rd m) (K (c, k)) (cell c k) := by
  have h : (bigSep Finset.univ fun ck : Dev nD × Kind' => (cellInv ER (rd m) (K ck) (cell ck.1 ck.2) : sProp 𝕄)) ⊢ cellInv ER (rd m) (K (c, k)) (cell c k) :=
    bigSep_elim (Finset.mem_univ (c, k))
  unfold records
  iintro ⟨#H, -, -⟩
  iapply h
  iexact H
theorem records_reached (K : Dev nD × Kind' → ℕ) (c : Dev nD) (k : Kind') : records m K ⊢ reached ER (cell c k) 0 := by
  have h : (bigSep Finset.univ fun ck : Dev nD × Kind' => (reached ER (cell ck.1 ck.2) 0 : sProp 𝕄)) ⊢ reached ER (cell c k) 0 :=
    bigSep_elim (Finset.mem_univ (c, k))
  unfold records
  iintro ⟨-, #H, -⟩
  iapply h
  iexact H
theorem records_mayWait (K : Dev nD × Kind' → ℕ) (c : Dev nD) (sm : SemLoc sig) (O : CellTallies nD τ sig Unit) (h : Above (levOf (kindOf sm)) O) :
    records m K ⊢ MayWait (c : Thread nD τ) sm () O := by
  unfold records
  iintro ⟨-, -, #H⟩
  iapply (mayWait c sm O h)
  iexact H

end Cert.KernelIdeal.Amax

end
-- ==== Proof.Views.lean ====
/- The buffers cut into the pieces the body works on: disjoint blocks that cover each buffer, owned one by one, and what a load inside
   a piece reads. -/
module

public import proofs.«01_k».proof.Proof.Base
public import proofs.«01_k».proof.Proof.Contents
public import Idealize.ShloMosaic.Lib.Ring

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

omit [FloatOps F] in
/-- A memref owned at known values is owned at some. -/
theorem ownsE_intro (c : Dev nD) {sp : Space} {s : Shape} {e : EltTy} (m : Memref sig .tc sp s e) (X : s.Idx → Elt F e) :
    (owns (c : Thread nD τ) m fullShare X : sProp 𝕄) ⊢ ownsE c m := by
  iintro H; iexists X; iexact H

/-! ## Pieces of a memref -/

/-- A family of rectangles that are disjoint and cover the shape. -/
structure Tiling {s : Shape} {n : ℕ} (r : Fin n → Rect s) : Prop where
  unit : ∀ t a, (r t).stride a = 1
  disj : ∀ t t', t ≠ t' → Disjoint (r t).set (r t').set
  cover : (Finset.univ : Finset (Fin n)).biUnion (fun t => (r t).set) = Finset.univ

/-- Blocks along one axis tile. -/
theorem Tiling.lead {s : Shape} {n : ℕ} (a₀ : Fin s.rank) (R : ℕ) (off : Fin n → Fin s.rank → ℕ) (size : Fin s.rank → ℕ)
    (inb : ∀ b a, off b a + size a ≤ s.size a) (hoff₀ : ∀ b, off b a₀ = R * b.val) (hoff : ∀ b a, a ≠ a₀ → off b a = 0)
    (hsz₀ : size a₀ = R) (hsz : ∀ a, a ≠ a₀ → size a = s.size a) (hN : n * R = s.size a₀) :
    Tiling fun b : Fin n => Rect.unit (off b) size (inb b) where
  unit _ _ := rfl
  disj := fun b b' h => Ring.lead_disjoint a₀ R off size inb hoff₀ hsz₀ b b' h
  cover := Ring.lead_cover a₀ R off size inb hoff₀ hoff hsz₀ hsz hN

section Pieces

variable (c : Dev nD) {sp : Space} {s : Shape} {e : EltTy} (m : Memref sig .tc sp s e) {n : ℕ} {r : Fin n → Rect s} (ht : Tiling r)

omit [FloatOps F] in
theorem owns_pieces (q : PosShare TreeShare) (X : s.Idx → Elt F e) :
    (owns (c : Thread nD τ) m q X : sProp 𝕄)
      ⊢ bigSep Finset.univ fun t => owns (c : Thread nD τ) (m.slice (r t) (ht.unit t)) q (fun j => X ((r t).emb j)) :=
  owns_rects (c : Thread nD τ) m q r ht.unit ht.disj ht.cover X

/-- Pieces owned at values are the memref owned at the values put together. -/
theorem owns_glue (q : PosShare TreeShare) (Z : (t : Fin n) → (r t).shape.Idx → Elt F e) :
    (bigSep Finset.univ fun t => (owns (c : Thread nD τ) (m.slice (r t) (ht.unit t)) q (Z t) : sProp 𝕄))
      ⊢ owns (c : Thread nD τ) m q (Rect.glue r ht.cover Z) := by
  refine (Entails.of_eq (bigSep_congr fun t _ => ?_)).trans (owns_of_rects (c : Thread nD τ) m q r ht.unit ht.disj ht.cover (Rect.glue r ht.cover Z))
  rw [show (fun j => Rect.glue r ht.cover Z ((r t).emb j)) = Z t from funext fun j => Rect.glue_emb r ht.cover ht.disj Z t j]

omit [FloatOps F] in
theorem ownsE_pieces : (ownsE (F := F) c m : sProp 𝕄) ⊢ bigSep Finset.univ fun t => ownsE c (m.slice (r t) (ht.unit t)) := by
  iintro ⟨%X, H⟩
  iapply ((owns_pieces c m ht fullShare X).trans (bigSep_mono fun t _ => ownsE_intro c _ _))
  iexact H

theorem ownsE_glue : (bigSep Finset.univ fun t => ownsE (F := F) c (m.slice (r t) (ht.unit t))) ⊢ ownsE c m := by
  refine (BI.bigSep_exists_pi Finset.univ (fun t (Y : (r t).shape.Idx → Elt F e) => (owns (c : Thread nD τ) (m.slice (r t) (ht.unit t)) fullShare Y : sProp 𝕄))).trans ?_
  iintro ⟨%Z, H⟩
  iexists (Rect.glue r ht.cover Z)
  iapply (owns_glue c m ht fullShare Z)
  iexact H

omit [FloatOps F] in
theorem squeeze_read {s' : Shape} (h : s.Squeezes s') (f : m.view.ty.Contents (Elt F)) (X : s'.Idx → Elt F e) :
    (m.squeeze s' h).view.read (Elt F) f = X ↔ m.view.read (Elt F) f = unsq h X := by
  constructor
  · rintro rfl
    funext z
    show _ = m.view.read (Elt F) f (Shape.reshapeEquiv h.numel_eq ((Shape.reshapeEquiv h.numel_eq).symm z))
    rw [Equiv.apply_symm_apply]
  · intro hX
    funext y
    show m.view.read (Elt F) f (Shape.reshapeEquiv h.numel_eq y) = X y
    rw [hX, unsq, Equiv.symm_apply_apply]

omit [FloatOps F] in
theorem owns_squeeze {s' : Shape} (h : s.Squeezes s') (q : PosShare TreeShare) (X : s'.Idx → Elt F e) :
    (owns (c : Thread nD τ) (m.squeeze s' h) q X : sProp 𝕄) = owns (c : Thread nD τ) m q (unsq h X) := by
  unfold owns
  have hs : (m.squeeze s' h).view.set = m.view.set := View.set_reshape _ _
  congr 1
  funext f
  rw [hs, propext (squeeze_read m h f X)]

omit [FloatOps F] in
theorem ownsE_squeeze {s' : Shape} (h : s.Squeezes s') : (ownsE (F := F) c (m.squeeze s' h) : sProp 𝕄) = ownsE c m := by
  have h₁ : (ownsE (F := F) c (m.squeeze s' h) : sProp 𝕄) ⊢ ownsE c m := by
    iintro ⟨%X, H⟩
    iexists (unsq h X)
    rw [← owns_squeeze c m h]; iexact H
  have h₂ : (ownsE (F := F) c m : sProp 𝕄) ⊢ ownsE c (m.squeeze s' h) := by
    iintro ⟨%X, H⟩
    iexists (fun y => X (Shape.reshapeEquiv h.numel_eq y))
    rw [owns_squeeze c m h]
    rw [show unsq h (fun y => X (Shape.reshapeEquiv h.numel_eq y)) = X from funext fun z => by rw [unsq, Equiv.apply_symm_apply]]
    iexact H
  exact BI.equiv_iff.mp ⟨h₁, h₂⟩

end Pieces

/-! ## The tilings -/

theorem til_rows : Tiling rowsR := Tiling.lead (s := S4096x512) 0 512 _ _ inb_rows (fun _ => rfl) (by decide) rfl (by decide) rfl
theorem til_wblk : Tiling wblkR := Tiling.lead (s := S4096x8192) 0 512 _ _ inb_wblk (fun _ => rfl) (by decide) rfl (by decide) rfl
theorem til_stg : Tiling stgR := Tiling.lead (s := S2x512x512) 0 1 _ _ inb_stg (by decide) (by decide) rfl (by decide) rfl
theorem til_slot : Tiling slotR := Tiling.lead (s := S8x512x512) 0 1 _ _ inb_slot (by decide) (by decide) rfl (by decide) rfl
theorem til_wslot : Tiling wslotR := Tiling.lead (s := S2x512x8192) 0 1 _ _ inb_wslot (by decide) (by decide) rfl (by decide) rfl
theorem til_tile : Tiling tileR := Tiling.lead (s := S512x8192) 1 1024 _ _ inb_tile (fun _ => rfl) (by decide) rfl (by decide) rfl
theorem til_aslot : Tiling aslotR := Tiling.lead (s := S8x8x128) 0 1 _ _ inb_aslot (by decide) (by decide) rfl (by decide) rfl

/-! ## Loads inside a piece -/

section Inside

omit [FloatOps F]

/-- A load of a whole squeezed slice. -/
theorem val_slice {cs : CoreSpace} {s s' : Shape} {e : EltTy} {m : Memref sig .tc cs s e} {r : Rect s} {hr : ∀ a, r.stride a = 1} {hq : r.shape.Squeezes s'}
    (X : s'.Idx → Elt F e) (f : m.view.ty.Contents (Elt F)) (hf : ((m.slice r hr).squeeze s' hq).view.read (Elt F) f = X) :
    (m.access r).read (Elt F) f = unsq hq X := (squeeze_read (m.slice r hr) hq f X).mp hf

theorem reshape_w (h : S512x8192.numel = S1x512x8192.numel) (y : S512x8192.Idx) : Shape.reshapeEquiv h y = Fin.cons ⟨0, Nat.one_pos⟩ y :=
  Shape.reshapeEquiv_cons_one (n := 2) (d := S512x8192.size) h y
theorem reshape_wt (h : S512x1024.numel = S1x512x1024.numel) (y : S512x1024.Idx) : Shape.reshapeEquiv h y = Fin.cons ⟨0, Nat.one_pos⟩ y :=
  Shape.reshapeEquiv_cons_one (n := 2) (d := S512x1024.size) h y

theorem sub_wtile (s : Fin 2) (n : Fin 8) : (wtileR s n).set ⊆ (wslotR s).set := by
  intro i hi
  refine Rect.mem_set_unit.mpr fun a => ?_
  have h := Rect.mem_set_unit.mp hi a
  have hl := (i a).isLt
  fin_cases a
  · exact h
  · exact h
  · exact ⟨Nat.zero_le _, by simpa using hl⟩

theorem sub_acell (k : Fin 8) : (acellR k).set ⊆ (aslotR k).set := by
  intro i hi
  refine Rect.mem_set_unit.mpr fun a => ?_
  have h := Rect.mem_set_unit.mp hi a
  have hl := (i a).isLt
  fin_cases a
  · exact h
  · exact ⟨Nat.zero_le _, by simpa using hl⟩
  · exact ⟨Nat.zero_le _, by simpa using hl⟩

/-- The tile of `w` that a load inside a buffer half reads. -/
theorem val_wtile (s : Fin 2) (n : Fin 8) (X : S512x8192.Idx → Elt F .f32) (f : wbuf.view.ty.Contents (Elt F))
    (hf : (wSlot s).view.read (Elt F) f = X) : (wbuf.access (wtileR s n)).read (Elt F) f = wTile X n := by
  subst hf
  funext z
  show wbuf.view.read (Elt F) f ((wtileR s n).emb z)
    = wbuf.view.read (Elt F) f ((wslotR s).emb (Shape.reshapeEquiv _ ((tileR n).emb (Shape.reshapeEquiv _ z))))
  congr 1
  rw [← Shape.reshapeEquiv_symm (by decide : S512x1024.numel = S1x512x1024.numel)]
  generalize hy : (Shape.reshapeEquiv (by decide : S512x1024.numel = S1x512x1024.numel)).symm z = y
  rw [Equiv.symm_apply_eq] at hy
  rw [hy, reshape_wt, reshape_w]
  funext a
  refine Fin.ext ?_
  rw [Rect.emb_apply, Rect.emb_apply]
  fin_cases a
  · rfl
  · show 0 + 1 * (y 0).val = 0 + 1 * (0 + 1 * (y 0).val); omega
  · show 1024 * n.val + 1 * (y 1).val = 0 + 1 * (1024 * n.val + 1 * (y 1).val); omega

/-- The number a load inside a slot of maxima reads. -/
theorem val_acell [FloatOps F] (k : Fin 8) (a : F .f32) (f : abuf.view.ty.Contents (Elt F)) (hf : (aslotM k).view.read (Elt F) f = spread a) :
    (abuf.access (acellR k)).read (Elt F) f = fun _ => a := by
  have hf' := (squeeze_read (abuf.slice (aslotR k) (fun _ => rfl)) squeezes_S1x8x128_S8x128 f (spread a)).mp hf
  funext z
  have hz := sub_acell k (by rw [← Rect.map_emb_univ]; exact Finset.mem_map_of_mem _ (Finset.mem_univ z) : (acellR k).emb z ∈ (acellR k).set)
  rw [← Rect.map_emb_univ, Finset.mem_map] at hz
  obtain ⟨y, -, hy⟩ := hz
  have := congrFun hf' y
  show abuf.view.read (Elt F) f ((acellR k).emb z) = a
  rw [← hy]
  exact this

end Inside

end Cert.KernelIdeal.Amax

end
-- ==== Proof.Steps.lean ====
/- What each step of the body does: one triple per step, at a symbolic device and a symbolic index. -/
module

public import proofs.«01_k».proof.Proof.Protocol
public import proofs.«01_k».proof.Proof.Views
public import proofs.«01_k».proof.Proof.Program

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × Kind' → ℕ) (c : Dev nD)

/-- The records, and what the device still owes. -/
def owing (O : CellTallies nD τ sig Unit) : sProp 𝕄 := iprop(records m K ∗ ∃ W, owes (c : Thread nD τ) O W)

/-- The program goes on from where a step leaves off. -/
theorem wp_step {β : Type} {e : Tc F PUnit} {k : PUnit → Tc F β} {P : sProp 𝕄} {S : PUnit → sProp 𝕄} {Q : β → sProp 𝕄} (he : P ⊢ Wp c e S) :
    P ⊢ iprop((S ⟨⟩ -∗ Wp c (k ⟨⟩) Q) -∗ Wp c (e >>= k) Q) := by
  refine BI.wand_intro (wp_seq c he fun a => ?_)
  iintro ⟨HS, Hk⟩
  iapply Hk; iexact HS
theorem wp_step_val {α β : Type} {e : Tc F α} {k : α → Tc F β} {P S : sProp 𝕄} {v : α} {Q : β → sProp 𝕄}
    (he : P ⊢ Wp c e fun a => iprop(⌜a = v⌝ ∗ S)) :
    P ⊢ iprop((S -∗ Wp c (k v) Q) -∗ Wp c (e >>= k) Q) := by
  refine BI.wand_intro (wp_seq c he fun a => ?_)
  iintro ⟨⟨%ha, HS⟩, Hk⟩
  subst ha
  iapply Hk; iexact HS
theorem wp_done {α : Type} {a : α} {Q : α → sProp 𝕄} : Q a ⊢ Wp c (Prog.ret a : Tc F α) Q := by
  rw [Wp, wp_ret]
  iintro H; imodintro; iexact H

/-- The last step, the rest of the state kept. -/
theorem wp_frame_step {α : Type} {e : Tc F α} {P : sProp 𝕄} {S Q : α → sProp 𝕄} (he : P ⊢ Wp c e S) :
    P ⊢ iprop((∀ a, S a -∗ Q a) -∗ Wp c e Q) := by
  refine BI.wand_intro ?_
  refine ((sep_mono_left he).trans (wp_frame_r _ _ _)).trans (wp_mono _ _ _ fun a => ?_)
  iintro ⟨HS, Hk⟩
  iapply Hk; iexact HS

/-! ## The barrier -/

theorem signal_core (R : CellTallies nD τ sig Unit) (i : Fin 7) (n : Dev nD) (hn : n = far c (nxt i)) :
    iprop(owing m K c (R + owedBar c i.val) ∗ (dutyTok ER (cell (far c (nxt i)) kBar) 0 i ∗ ownsE c (slotM (nxt i)) ∗ ownsE c (aslotM (nxt i))))
      ⊢ Wp c (semSignalWord n barS 1#32) (fun _ => iprop(owing m K c (R + owedBar c (i.val + 1)) ∗ emp)) := by
  subst hn
  unfold owing semSignalWord
  iintro ⟨⟨#HR, %W, HO⟩, Ht, Hs, Ha⟩
  ihave #Hi := (records_inv m K (far c (nxt i)) kBar) $$ HR
  ihave #Hr := (records_reached m K (far c (nxt i)) kBar) $$ HR
  iapply (Rounds.wp_signal 𝒱₀ ER (rd m) (c : Thread nD τ) none (dst := (far c (nxt i) : Thread nD τ)) (κ := K (far c (nxt i), kBar))
      (d := i) (by rw [show ((far c (nxt i) : Thread nD τ), (SemLoc.reg barS : SemLoc sig)) = cell (far c (nxt i)) kBar from rfl, rd_duties]; exact Finset.mem_univ _)
      ((rd_amount m (far c (nxt i)) kBar i).trans (by decide)) () (O₀ := R + owedBar c i.val) (R + owedBar c (i.val + 1)) (by rw [owedBar, left_step, ← add_assoc]; rfl))
    $$ [HO Ht Hs Ha]
  · isplitr; · iexact Hi
    isplitl [HO]; · iexact HO
    isplitl [Ht]; · iexact Ht
    isplitl [Hs Ha]
    · rw [show (rd m).payload ((far c (nxt i) : Thread nD τ), (SemLoc.reg barS : SemLoc sig)) 0 i = barPay (far c (nxt i)) i from rd_payload m (far c (nxt i)) kBar i]
      unfold barPay
      rw [far_back]
      isplitl [Hs]; · iexact Hs
      iexact Ha
    · iexact Hr
  iintro HO
  iapply (wp_done c)
  isplitl [HO]
  · isplitr; · iexact HR
    iexists W; iexact HO
  iempintro

theorem signal_step (R : CellTallies nD τ sig Unit) (i : Fin 7) :
    iprop(owing m K c (R + owedBar c i.val) ∗ (dutyTok ER (cell (far c (nxt i)) kBar) 0 i ∗ ownsE c (slotM (nxt i)) ∗ ownsE c (aslotM (nxt i))))
      ⊢ Wp c (semSignalWord (sigDev c i) barS 1#32) (fun _ => iprop(owing m K c (R + owedBar c (i.val + 1)) ∗ emp)) :=
  signal_core m K c R i _ (sigDev_eq c i)

theorem bar_wait (O : CellTallies nD τ sig Unit) (hO : Above 1 O) :
    iprop(owing m K c O ∗ atPos ER (cell c kBar) 0 ∅ 0 ∗ cred (tallyAt (cell c kBar) () 7))
      ⊢ Wp c (semWaitWord barS 7#32) (fun _ => iprop(owing m K c O ∗ atPos ER (cell c kBar) 1 ∅ 0
          ∗ bigSep Finset.univ fun r : Fin 7 => iprop(ownsE (F := F) (far c (nxt r)) (slotM (opp r)) ∗ ownsE (far c (nxt r)) (aslotM (opp r))))) := by
  unfold owing semWaitWord
  iintro ⟨⟨#HR, %W, HO⟩, Hat, Hc⟩
  ihave #Hi := (records_inv m K c kBar) $$ HR
  iapply (Rounds.wp_wait_rest_token 𝒱₀ ER (rd m) (c : Thread nD τ) none (κ := K (c, kBar))
      (wpE_semWait_eq 𝒱₀ (c : Thread nD τ) none Set.univ) (Set.mem_univ _) () (O := O) (W := W) (R := 0) (m := 0) (T := ∅)
      (by rw [show (rd m).expect ((c : Thread nD τ), (SemLoc.reg barS : SemLoc sig)) 0 = 7 from rd_expect m c kBar]; decide)) $$ [Hc HO Hat]
  · isplitr; · iexact Hi
    isplitl [Hc]; · iexact Hc
    isplitl [HO]; · iexact HO
    isplitr; · iapply (records_mayWait m K c (.reg barS) O hO); iexact HR
    iexact Hat
  iintro ⟨HO, Hat, -, Hpay⟩
  iapply (wp_done c)
  isplitl [HO]
  · isplitr; · iexact HR
    iexists _; iexact HO
  isplitl [Hat]; · iexact Hat
  ihave Hp := (Entails.of_eq (rest_bar m c)) $$ Hpay
  iexact Hp

/-! ## Staging the rows of `x` -/

abbrev NS : ℕ := (stgSlot 0).view.dmaCredit
abbrev xbfM (j : Fin 8) : Memref sig .tc .vmem S512x512 .bf16 := xbf.slice (rowsR j) (fun _ => rfl)

/-- Row block `j` of `x` on its way into its staging half. -/
def stgFl (j : Fin 8) : sProp 𝕄 := Flight EC (c : Thread nD τ) (.dma (stgS (par j))) () NS
  iprop(owns (c : Thread nD τ) (stgSlot (par j)) fullShare (xRow m c j) ∗ owns (c : Thread nD τ) (xRows j) fullShare (xRow m c j))

theorem stg_copy (j : Fin 8) :
    iprop(owns (c : Thread nD τ) (xRows j) fullShare (xRow m c j) ∗ ownsE c (stgSlot (par j)) ∗ semVal ((c : Thread nD τ), .dma (stgS (par j))) 0)
      ⊢ Wp c (stgCopy j) (fun _ => stgFl m c j) := by
  unfold stgCopy Prog.lift stgFl
  iintro H
  iapply (wp_copy_here c (by decide)) $$ H
  iintro H
  iapply (wp_done c)
  iexact H

theorem stg_round (O : CellTallies nD τ sig Unit) (hO : Above 0 O) (j : Fin 8) :
    iprop(stgFl m c j ∗ owing m K c O ∗ ownsE c (xbfM j))
      ⊢ Wp c (stgRound j) (fun _ => iprop((owing m K c O ∗ ownsE c (stgSlot (par j)) ∗ semVal ((c : Thread nD τ), .dma (stgS (par j))) 0)
          ∗ (owns (c : Thread nD τ) (xRows j) fullShare (xRow m c j) ∗ owns (c : Thread nD τ) (xbfM j) fullShare (xbfRow m c j)))) := by
  unfold stgRound owing stgFl
  simp only [Prog.lift, Prog.bind_op, Prog.bind_ret]
  iintro ⟨Hf, ⟨#HR, %W, HO⟩, %Y, Hb⟩
  iapply (wp_wait_flight c rfl) $$ [Hf HO]
  · isplitl [Hf]; · iexact Hf
    isplitl [HO]; · iexact HO
    iapply (records_mayWait m K c (.dma (stgS (par j))) O (by
      rw [show levOf (kindOf (.dma (stgS (par j)))) = 0 from by revert j; decide]; exact hO)); iexact HR
  iintro ⟨⟨Hs, Hx⟩, Hv, HO⟩
  iapply (wp_load_within c (Finset.Subset.refl _) (unsq squeezes_S1x512x512_S512x512 (xRow m c j)) (fun f hf => val_slice (m := stg) (r := stgR (par j)) (hr := fun _ => rfl) _ f hf)) $$ Hs
  iintro Hs
  iapply (wp_load_slice c (fun _ => rfl)) $$ Hb
  iintro Hb
  iapply (wp_store_slice c (fun _ => rfl)) $$ Hb
  iintro Hb
  iapply (wp_done c)
  isplitl [HO Hs Hv]
  · isplitl [HO]
    · isplitr; · iexact HR
      iexists _; iexact HO
    isplitl [Hs]; · iexists _; iexact Hs
    iexact Hv
  isplitl [Hx]; · iexact Hx
  iexact Hb

theorem par_add_two (k : ℕ) (h : k < 8) (h' : k + 2 < 8) : par ⟨k + 2, h'⟩ = par ⟨k, h⟩ := Fin.ext (by show (k + 2) % 2 = k % 2; omega)

theorem stg_step (O : CellTallies nD τ sig Unit) (hO : Above 0 O) (i : Fin 6) :
    iprop((owing m K c O ∗ stgFl m c (at8 i.val) ∗ stgFl m c (at8 (i.val + 1)))
        ∗ (owns (c : Thread nD τ) (xRows ⟨i.val + 2, by omega⟩) fullShare (xRow m c ⟨i.val + 2, by omega⟩) ∗ ownsE c (xbfM ⟨i.val, by omega⟩)))
      ⊢ Wp c (stgStep i) (fun _ => iprop((owing m K c O ∗ stgFl m c (at8 (i.val + 1)) ∗ stgFl m c (at8 (i.val + 1 + 1)))
        ∗ (owns (c : Thread nD τ) (xRows ⟨i.val, by omega⟩) fullShare (xRow m c ⟨i.val, by omega⟩)
          ∗ owns (c : Thread nD τ) (xbfM ⟨i.val, by omega⟩) fullShare (xbfRow m c ⟨i.val, by omega⟩)))) := by
  unfold stgStep
  have hi : i.val < 8 := by omega
  have e0 : at8 i.val = ⟨i.val, hi⟩ := at8_val ⟨i.val, hi⟩
  have e2 : at8 (i.val + 1 + 1) = ⟨i.val + 2, by omega⟩ := at8_val ⟨i.val + 2, by omega⟩
  have ep : par (⟨i.val + 2, by omega⟩ : Fin 8) = par ⟨i.val, by omega⟩ := par_add_two i.val (by omega) (by omega)
  rw [e0, e2]
  iintro ⟨⟨HO, Hf, Hf'⟩, Hx, Hb⟩
  iapply (wp_step c (stg_round m K c O hO ⟨i.val, hi⟩)) $$ [Hf HO Hb]
  · isplitl [Hf]; · iexact Hf
    isplitl [HO]; · iexact HO
    iexact Hb
  iintro ⟨⟨HO, Hs, Hv⟩, Hx0, Hb⟩
  have hc := stg_copy m c ⟨i.val + 2, by omega⟩
  rw [ep] at hc
  iapply (wp_frame_step c hc) $$ [Hx Hs Hv]
  · isplitl [Hx]; · iexact Hx
    isplitl [Hs]; · iexact Hs
    iexact Hv
  iintro %_ Hf2
  isplitl [HO Hf' Hf2]
  · isplitl [HO]; · iexact HO
    isplitl [Hf']; · iexact Hf'
    iexact Hf2
  isplitl [Hx0]; · iexact Hx0
  iexact Hb

/-! ## Sending the rows -/

/-- The rows for the device `r + 1` places on, on their way. -/
def rowFl (r : Fin 7) : sProp 𝕄 := Flight EC (c : Thread nD τ) (.dma (bsendS r)) () NB
  (owns (c : Thread nD τ) (xbfM (far c (nxt r))) fullShare (xbfRow m c (far c (nxt r))))

theorem credit_slot (k : Fin 8) : (slotM k).view.dmaCredit = amountOf' (some (kRow 0)) := rfl

theorem row_send_core (Om : CellTallies nD τ sig Unit) (i r : Fin 7) (hr : r = Fin.rev i) (n : Dev nD) (hn : n = far c (nxt r)) (k : Fin 8) (hk : k = nxt (Fin.rev r))
    (src : Memref sig .tc .vmem S512x512 .bf16) (hsrc' : src = xbfM (far c (nxt r))) {hsc : (slotM k).view.ref.isScScratch = false}
    {hsrc : src.view.WordExact} {hdst : (slotM k).view.WordExact}
    {hsem : DmaTarget.Typed (nD := nD) (τ := τ) (p := .tc) .vmem (.dma (brecvS k)) (.remote (Dev.tc n : Thread nD τ) (slotM k) (.dma (bsendS r)) hsc)} :
    iprop(owing m K c (Om + owedRows c i.val) ∗ (dutyTok ER (cell (far c (nxt r)) (kRow (Fin.rev r))) 0 0
        ∗ owns (c : Thread nD τ) (xbfM (far c (nxt r))) fullShare (xbfRow m c (far c (nxt r)))
        ∗ ownsE (far c (nxt r)) (slotM k) ∗ semVal ((c : Thread nD τ), .dma (bsendS r)) 0))
      ⊢ Wp c (Prog.lift (.enqueueDma src (.remote (Dev.tc n) (slotM k) (.dma (bsendS r)) hsc) (.dma (brecvS k)) hsrc hdst hsem))
          (fun _ => iprop(owing m K c (Om + owedRows c (i.val + 1)) ∗ rowFl m c r)) := by
  subst hn hk hsrc'
  unfold owing rowFl Prog.lift
  iintro ⟨⟨#HR, %W, HO⟩, Ht, Hs, Hd, Hv⟩
  ihave #Hi := (records_inv m K (far c (nxt r)) (kRow (Fin.rev r))) $$ HR
  ihave #Hr := (records_reached m K (far c (nxt r)) (kRow (Fin.rev r))) $$ HR
  iapply (wp_copy_there c (by decide) (rd m) (c' := far c (nxt r)) (κ := K (far c (nxt r), kRow (Fin.rev r))) (d := 0)
    (by rw [show ((far c (nxt r) : Thread nD τ), (SemLoc.dma (brecvS (nxt (Fin.rev r))) : SemLoc sig)) = cell (far c (nxt r)) (kRow (Fin.rev r)) from rfl, rd_duties]
        exact Finset.mem_singleton_self _)
    ((rd_amount m (far c (nxt r)) (kRow (Fin.rev r)) 0).trans (credit_slot _).symm)
    (X := xbfRow m c (far c (nxt r)))
    (by
      rw [show (rd m).payload ((far c (nxt r) : Thread nD τ), (SemLoc.dma (brecvS (nxt (Fin.rev r))) : SemLoc sig)) 0 0 = rowPay m (far c (nxt r)) (Fin.rev r)
        from rd_payload m (far c (nxt r)) (kRow (Fin.rev r)) 0]
      unfold rowPay sentRow
      rw [far_back])
    (O₀ := Om + owedRows c i.val) (Om + owedRows c (i.val + 1)) (by
      rw [owedRows, left_step, ← add_assoc, ← hr]) (W := W) (by routes)) $$ [Ht Hs Hd Hv HO]
  · isplitr; · iexact Hi
    isplitl [Ht]; · iexact Ht
    isplitr; · iexact Hr
    isplitl [Hs]; · iexact Hs
    isplitl [Hd]; · iexact Hd
    isplitl [Hv]; · iexact Hv
    iexact HO
  iintro ⟨Hf, HO⟩
  iapply (wp_done c)
  isplitl [HO]
  · isplitr; · iexact HR
    iexists W; iexact HO
  iexact Hf

theorem row_send (Om : CellTallies nD τ sig Unit) (i : Fin 7) :
    iprop(owing m K c (Om + owedRows c i.val) ∗ (dutyTok ER (cell (far c (nxt (Fin.rev i))) (kRow (Fin.rev (Fin.rev i)))) 0 0
        ∗ owns (c : Thread nD τ) (xbfM (far c (nxt (Fin.rev i)))) fullShare (xbfRow m c (far c (nxt (Fin.rev i))))
        ∗ ownsE (far c (nxt (Fin.rev i))) (slotM (opp (Fin.rev i))) ∗ semVal ((c : Thread nD τ), .dma (bsendS (Fin.rev i))) 0))
      ⊢ Wp c (rowSend c (Fin.rev i)) (fun _ => iprop(owing m K c (Om + owedRows c (i.val + 1)) ∗ rowFl m c (Fin.rev i))) :=
  row_send_core m K c Om i _ rfl _ (rowDev_eq c _) _ (opp_eq _) _ (sendRows_eq c _)

theorem row_left (i : Fin 7) :
    iprop(owing m K c 0 ∗ rowFl m c (Fin.rev i))
      ⊢ Wp c (rowLeft c i) (fun _ => iprop(owing m K c 0 ∗ (semVal ((c : Thread nD τ), .dma (bsendS (Fin.rev i))) 0
          ∗ owns (c : Thread nD τ) (xbfM (far c (nxt (Fin.rev i)))) fullShare (xbfRow m c (far c (nxt (Fin.rev i))))))) := by
  unfold rowLeft owing rowFl Prog.lift
  iintro ⟨⟨#HR, %W, HO⟩, Hf⟩
  iapply (wp_wait_flight c rfl) $$ [Hf HO]
  · isplitl [Hf]; · iexact Hf
    isplitl [HO]; · iexact HO
    rw [MayWait_zero]; iempintro
  iintro ⟨Hx, Hv, HO⟩
  iapply (wp_done c)
  isplitl [HO]
  · isplitr; · iexact HR
    iexists _; iexact HO
  isplitl [Hv]; · iexact Hv
  iexact Hx

end Cert.KernelIdeal.Amax

end
-- ==== Proof.Steps2.lean ====
/- The steps that multiply, the exchange of the maxima, and the quantising: one triple per step. -/
module

public import proofs.«01_k».proof.Proof.Steps

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × Kind' → ℕ) (c : Dev nD)

/-! ## The rows of `w` -/

abbrev NW : ℕ := (wSlot 0).view.dmaCredit
abbrev wM (j : Fin 8) : Memref sig .tc .hbm S512x8192 .f32 := wA.slice (wblkR j) (fun _ => rfl)
abbrev tileM (n : Fin 8) : Memref sig .tc .vmem S512x1024 .f32 := oM.slice (tileR n) (fun _ => rfl)

/-- The tiles of the output at given values. -/
def tiles (o : Fin 8 → FVec F S512x1024 .f32) : sProp 𝕄 := bigSep Finset.univ fun n => owns (c : Thread nD τ) (tileM n) fullShare (o n)
/-- The rows of `w` for step `k`, where they came from. -/
def wSrc (k : Fin 8) : sProp 𝕄 := owns (c : Thread nD τ) (wM (far c k)) fullShare (wRow m c (far c k))

/-- The rows of `w` for step `k` on their way. -/
def wFl (k : Fin 8) : sProp 𝕄 := Flight EC (c : Thread nD τ) (.dma (wS (par k))) () NW
  iprop(owns (c : Thread nD τ) (wSlot (par k)) fullShare (wRow m c (far c k)) ∗ wSrc m c k)

theorem w_copy_core (k : Fin 8) (src : Memref sig .tc .hbm S512x8192 .f32) (h : src = wM (far c k)) {hsrc : src.view.WordExact}
    {hdst : (wSlot (par k)).view.WordExact}
    {hsem : DmaTarget.Typed (nD := nD) (τ := τ) (p := .tc) .hbm (.dma (wS (par k))) (.here (wSlot (par k)))} :
    iprop(wSrc m c k ∗ ownsE c (wSlot (par k)) ∗ semVal ((c : Thread nD τ), .dma (wS (par k))) 0)
      ⊢ Wp c (Prog.lift (.enqueueDma src (.here (wSlot (par k))) (.dma (wS (par k))) hsrc hdst hsem)) (fun _ => wFl m c k) := by
  subst h
  unfold Prog.lift wFl wSrc
  iintro H
  iapply (wp_copy_here c (by decide)) $$ H
  iintro H
  iapply (wp_done c)
  iexact H

theorem w_copy (k : Fin 8) :
    iprop(wSrc m c k ∗ ownsE c (wSlot (par k)) ∗ semVal ((c : Thread nD τ), .dma (wS (par k))) 0) ⊢ Wp c (wCopy c k) (fun _ => wFl m c k) :=
  w_copy_core m c k _ (wRows_eq c k)

theorem w_wait (O : CellTallies nD τ sig Unit) (hO : Above 0 O) (k : Fin 8) :
    iprop(owing m K c O ∗ wFl m c k)
      ⊢ Wp c (wWait c k) (fun _ => iprop(owing m K c O ∗ owns (c : Thread nD τ) (wSlot (par k)) fullShare (wRow m c (far c k)) ∗ wSrc m c k
          ∗ semVal ((c : Thread nD τ), .dma (wS (par k))) 0)) := by
  unfold wWait owing wFl Prog.lift
  iintro ⟨⟨#HR, %W, HO⟩, Hf⟩
  iapply (wp_wait_flight c rfl) $$ [Hf HO]
  · isplitl [Hf]; · iexact Hf
    isplitl [HO]; · iexact HO
    iapply (records_mayWait m K c (.dma (wS (par k))) O (by
      rw [show levOf (kindOf (.dma (wS (par k)))) = 0 from by revert k; decide]; exact hO)); iexact HR
  iintro ⟨⟨Hs, Hx⟩, Hv, HO⟩
  iapply (wp_done c)
  isplitl [HO]
  · isplitr; · iexact HR
    iexists _; iexact HO
  isplitl [Hs]; · iexact Hs
  isplitl [Hx]; · iexact Hx
  iexact Hv

/-! ## One tile -/

theorem tile_first (x : FVec F S512x512 .f32) (X : S512x8192.Idx → Elt F .f32) (n : Fin 8) :
    iprop(owns (c : Thread nD τ) (wSlot 0) fullShare X ∗ ownsE c (tileM n))
      ⊢ Wp c (tileFirst x n) (fun _ => iprop(owns (c : Thread nD τ) (wSlot 0) fullShare X ∗ owns (c : Thread nD τ) (tileM n) fullShare (prod x (wTile X n)))) := by
  unfold tileFirst
  simp only [Prog.lift, Prog.bind_op, Prog.bind_ret]
  iintro ⟨Hw, %Y, Ho⟩
  iapply (wp_load_within c (sub_wtile 0 n) (wTile X n) (val_wtile 0 n X)) $$ Hw
  iintro Hw
  iapply (wp_load_slice c (fun _ => rfl)) $$ Ho
  iintro Ho
  iapply (wp_store_slice c (fun _ => rfl)) $$ Ho
  iintro Ho
  iapply (wp_done c)
  isplitl [Hw]; · iexact Hw
  iexact Ho

theorem tile_next (s : Fin 2) (x : FVec F S512x512 .f32) (X : S512x8192.Idx → Elt F .f32) (o : Fin 8 → FVec F S512x1024 .f32) (n : Fin 8) :
    iprop(owns (c : Thread nD τ) (wSlot s) fullShare X ∗ owns (c : Thread nD τ) (tileM n) fullShare (o n))
      ⊢ Wp c (tileNext s x n) (fun a => iprop(⌜a = accum x (wTile X n) (o n)⌝ ∗ owns (c : Thread nD τ) (wSlot s) fullShare X
          ∗ owns (c : Thread nD τ) (tileM n) fullShare (accum x (wTile X n) (o n)))) := by
  unfold tileNext
  simp only [Prog.lift, Prog.bind_op, Prog.bind_ret, Prog.pure_eq_ret]
  iintro ⟨Hw, Ho⟩
  iapply (wp_load_within c (sub_wtile s n) (wTile X n) (val_wtile s n X)) $$ Hw
  iintro Hw
  iapply (wp_load_slice c (fun _ => rfl)) $$ Ho
  iintro Ho
  iapply (wp_load_slice c (fun _ => rfl)) $$ Ho
  iintro Ho
  iapply (wp_store_slice c (fun _ => rfl)) $$ Ho
  iintro Ho
  iapply (wp_done c)
  isplitr; · ipureintro; rfl
  isplitl [Hw]; · iexact Hw
  iexact Ho

theorem quant_tile (g : F .f32) (o : Fin 8 → FVec F S512x1024 .f32) (n : Fin 8) :
    iprop(emp ∗ owns (c : Thread nD τ) (tileM n) fullShare (o n))
      ⊢ Wp c (quantTile g n) (fun _ => iprop(emp ∗ owns (c : Thread nD τ) (tileM n) fullShare (quant g (o n)))) := by
  unfold quantTile
  simp only [Prog.lift, Prog.bind_op, Prog.bind_ret]
  iintro ⟨-, Ho⟩
  iapply (wp_load_slice c (fun _ => rfl)) $$ Ho
  iintro Ho
  iapply (wp_load_slice c (fun _ => rfl)) $$ Ho
  iintro Ho
  iapply (wp_store_slice c (fun _ => rfl)) $$ Ho
  iintro Ho
  iapply (wp_done c)
  isplitr; · iempintro
  iexact Ho

/-! ## The steps -/

/-- An idle half of the buffer for `w`, with its counter. -/
def wIdle (s : Fin 2) : sProp 𝕄 := iprop(ownsE c (wSlot s) ∗ semVal ((c : Thread nD τ), .dma (wS s)) 0)

theorem own_load_core {α : Type} {Q : α → sProp 𝕄} (off : Fin 2 → ℕ) (h : off = ![512 * c.val, 0])
    {inb : ∀ a, off a + S512x512.size a ≤ S4096x512.size a} {k : (S512x512.Idx → Elt F .bf16) → Tc F α}
    {hl : xbf.view.LoadsAt (Rect.unit (s := S4096x512) off S512x512.size inb).toLoadRect} {X : S512x512.Idx → Elt F .bf16} :
    (owns (c : Thread nD τ) (xbfM c) fullShare X : sProp 𝕄)
      ⊢ iprop((owns (c : Thread nD τ) (xbfM c) fullShare X -∗ Wp c (k X) Q)
          -∗ Wp c (.op (.load xbf (Rect.unit (s := S4096x512) off S512x512.size inb).toLoadRect hl) k) Q) := by
  subst h
  exact wp_load_slice c (fun _ => rfl)

theorem step_first (O : CellTallies nD τ sig Unit) (hO : Above 0 O) :
    iprop(owing m K c O ∗ (wSrc m c 0 ∗ wIdle c 0) ∗ (wSrc m c 1 ∗ wIdle c 1) ∗ owns (c : Thread nD τ) (xbfM c) fullShare (xbfRow m c c)
        ∗ (bigSep Finset.univ fun n => ownsE c (tileM n)))
      ⊢ Wp c (stepFirst c) (fun _ => iprop(owing m K c O ∗ (wSrc m c 0 ∗ wIdle c 0) ∗ wFl m c 1
          ∗ owns (c : Thread nD τ) (xbfM c) fullShare (xbfRow m c c) ∗ tiles c (acc m c 0))) := by
  unfold stepFirst wIdle tiles
  iintro ⟨HO, ⟨H0, He0, Hv0⟩, ⟨H1, He1, Hv1⟩, Hx, Ht⟩
  iapply (wp_step c (w_copy m c 0)) $$ [H0 He0 Hv0]
  · isplitl [H0]; · iexact H0
    isplitl [He0]; · iexact He0
    iexact Hv0
  iintro Hf0
  iapply (wp_step c (w_copy m c 1)) $$ [H1 He1 Hv1]
  · isplitl [H1]; · iexact H1
    isplitl [He1]; · iexact He1
    iexact Hv1
  iintro Hf1
  iapply (wp_step c (w_wait m K c O hO 0)) $$ [HO Hf0]
  · isplitl [HO]; · iexact HO
    iexact Hf0
  iintro ⟨HO, Hw, H0, Hv0⟩
  simp only [Prog.lift, Prog.bind_op, Prog.bind_ret]
  iapply (own_load_core c (k0_off3 c) (k0_off3_eq c)) $$ Hx
  iintro Hx
  iapply (wp_frame_step c (wp_seqN c 8 (tileFirst (ownX (xbfRow m c c))) (fun _ => owns (c : Thread nD τ) (wSlot 0) fullShare (wRow m c (far c 0)))
    (fun n => ownsE c (tileM n)) (fun n => owns (c : Thread nD τ) (tileM n) fullShare (acc m c 0 n))
    (fun n => tile_first c _ _ n))) $$ [Hw Ht]
  · isplitl [Hw]; · iexact Hw
    iexact Ht
  iintro %_ ⟨Hw, Ht⟩
  isplitl [HO]; · iexact HO
  isplitl [H0 Hw Hv0]
  · isplitl [H0]; · iexact H0
    isplitl [Hw]; · iexists _; iexact Hw
    iexact Hv0
  isplitl [Hf1]; · iexact Hf1
  isplitl [Hx]; · iexact Hx
  iexact Ht

theorem row_wait (O : CellTallies nD τ sig Unit) (hO : Above 2 O) (r : Fin 7) :
    iprop(owing m K c O ∗ atPos ER (cell c (kRow r)) 0 ∅ 0 ∗ cred (tallyAt (cell c (kRow r)) () NB))
      ⊢ Wp c (rowWait (nxt r)) (fun _ => iprop(owing m K c O ∗ atPos ER (cell c (kRow r)) 1 ∅ 0
          ∗ owns (c : Thread nD τ) (slotM (nxt r)) fullShare (sentRow m c (nxt r)))) := by
  unfold owing rowWait Prog.lift
  iintro ⟨⟨#HR, %W, HO⟩, Hat, Hc⟩
  ihave #Hi := (records_inv m K c (kRow r)) $$ HR
  iapply (Rounds.wp_wait_rest_token 𝒱₀ ER (rd m) (c : Thread nD τ) none (κ := K (c, kRow r))
      (wpE_waitDma2_eq 𝒱₀ (c : Thread nD τ) none Set.univ) (Set.mem_univ _) () (O := O) (W := W) (R := 0) (m := 0) (T := ∅)
      (by rw [show (rd m).expect ((c : Thread nD τ), (SemLoc.dma (brecvS (nxt r)) : SemLoc sig)) 0 = NB from rd_expect m c (kRow r), Nat.zero_add])) $$ [Hc HO Hat]
  · isplitr; · iexact Hi
    isplitl [Hc]; · iexact Hc
    isplitl [HO]; · iexact HO
    isplitr
    · iapply (records_mayWait m K c (.dma (brecvS (nxt r))) O (by
        rw [show levOf (kindOf (.dma (brecvS (nxt r)))) = 2 from by revert r; decide]; exact hO)); iexact HR
    iexact Hat
  iintro ⟨HO, Hat, -, Hpay⟩
  iapply (wp_done c)
  isplitl [HO]
  · isplitr; · iexact HR
    iexists _; iexact HO
  isplitl [Hat]; · iexact Hat
  ihave Hp := (Entails.of_eq (rest_row m c r)) $$ Hpay
  unfold rowPay
  iexact Hp

theorem step_tiles (O : CellTallies nD τ sig Unit) (hO : Above 2 O) (hO' : Above 0 O) (r : Fin 7) :
    iprop(owing m K c O ∗ (atPos ER (cell c (kRow r)) 0 ∅ 0 ∗ cred (tallyAt (cell c (kRow r)) () NB)) ∗ wFl m c (nxt r) ∗ tiles c (acc m c r.val))
      ⊢ Wp c (stepTiles c (nxt r)) (fun a => iprop(⌜a = acc m c (r.val + 1)⌝ ∗ owing m K c O ∗ (atPos ER (cell c (kRow r)) 1 ∅ 0 ∗ ownsE c (slotM (nxt r)))
          ∗ (wSrc m c (nxt r) ∗ wIdle c (par (nxt r))) ∗ tiles c (acc m c (r.val + 1)))) := by
  unfold stepTiles wIdle tiles
  iintro ⟨HO, ⟨Hat, Hc⟩, Hf, Ht⟩
  iapply (wp_step c (row_wait m K c O hO r)) $$ [HO Hat Hc]
  · isplitl [HO]; · iexact HO
    isplitl [Hat]; · iexact Hat
    iexact Hc
  iintro ⟨HO, Hat, Hx⟩
  iapply (wp_step c (w_wait m K c O hO' (nxt r))) $$ [HO Hf]
  · isplitl [HO]; · iexact HO
    iexact Hf
  iintro ⟨HO, Hw, Hsrc, Hv⟩
  simp only [Prog.lift, Prog.bind_op, Prog.bind_ret]
  iapply (wp_load_within c (Finset.Subset.refl _) (unsq squeezes_S1x512x512_S512x512 (sentRow m c (nxt r)))
    (fun f hf => val_slice (m := xblk) (r := slotR (nxt r)) (hr := fun _ => rfl) _ f hf)) $$ Hx
  iintro Hx
  have hcol := wp_collectN c 8 (tileNext (par (nxt r)) (recvX (unsq squeezes_S1x512x512_S512x512 (sentRow m c (nxt r))))) (acc m c (r.val + 1))
    (fun _ => owns (c : Thread nD τ) (wSlot (par (nxt r))) fullShare (wRow m c (far c (nxt r))))
    (fun n => owns (c : Thread nD τ) (tileM n) fullShare (acc m c r.val n)) (fun n => owns (c : Thread nD τ) (tileM n) fullShare (acc m c (r.val + 1) n))
    (fun n => by
      have h := tile_next c (par (nxt r)) (recvX (unsq squeezes_S1x512x512_S512x512 (sentRow m c (nxt r)))) (wRow m c (far c (nxt r))) (acc m c r.val) n
      rw [acc_next m c r n] at h
      exact h)
  iapply (wp_frame_step c hcol) $$ [Hw Ht]
  · isplitl [Hw]; · iexact Hw
    iexact Ht
  iintro %a ⟨%ha, Hw, Ht⟩
  isplitr; · ipureintro; exact ha
  isplitl [HO]; · iexact HO
  isplitl [Hat Hx]
  · isplitl [Hat]; · iexact Hat
    iexists _; iexact Hx
  isplitl [Hsrc Hw Hv]
  · isplitl [Hsrc]; · iexact Hsrc
    isplitl [Hw]; · iexists _; iexact Hw
    iexact Hv
  iexact Ht

theorem step_mid (O : CellTallies nD τ sig Unit) (hO : Above 2 O) (hO' : Above 0 O) (i : Fin 6) :
    iprop((owing m K c O ∗ wFl m c (at8 (i.val + 1)) ∗ wIdle c (par (at8 i.val)) ∗ tiles c (acc m c i.val))
        ∗ (wSrc m c ⟨i.val + 2, by omega⟩ ∗ (atPos ER (cell c (kRow i.castSucc)) 0 ∅ 0 ∗ cred (tallyAt (cell c (kRow i.castSucc)) () NB))))
      ⊢ Wp c (stepMid c i) (fun _ => iprop((owing m K c O ∗ wFl m c (at8 (i.val + 1 + 1)) ∗ wIdle c (par (at8 (i.val + 1))) ∗ tiles c (acc m c (i.val + 1)))
        ∗ (wSrc m c ⟨i.val + 1, by omega⟩ ∗ (atPos ER (cell c (kRow i.castSucc)) 1 ∅ 0 ∗ ownsE c (slotM (nxt i.castSucc)))))) := by
  unfold stepMid
  have h0 : i.val < 8 := by omega
  have h1 : i.val + 1 < 8 := by omega
  have h2 : i.val + 2 < 8 := by omega
  have e0 : at8 i.val = ⟨i.val, h0⟩ := at8_val ⟨i.val, h0⟩
  have e1 : at8 (i.val + 1) = nxt i.castSucc := at8_val ⟨i.val + 1, h1⟩
  have e2 : at8 (i.val + 1 + 1) = ⟨i.val + 2, h2⟩ := at8_val ⟨i.val + 2, h2⟩
  have ep : par (⟨i.val + 2, h2⟩ : Fin 8) = par ⟨i.val, h0⟩ := par_add_two i.val h0 h2
  rw [e0, e1, e2]
  iintro ⟨⟨HO, Hf, Hi, Ht⟩, Hsrc, Hat⟩
  have hc := w_copy m c ⟨i.val + 2, h2⟩
  rw [ep] at hc
  iapply (wp_step c hc) $$ [Hsrc Hi]
  · isplitl [Hsrc]; · iexact Hsrc
    unfold wIdle; iexact Hi
  iintro Hf2
  have ht := step_tiles m K c O hO hO' i.castSucc
  iapply (wp_step_val c ht) $$ [HO Hat Hf Ht]
  · isplitl [HO]; · iexact HO
    isplitl [Hat]; · iexact Hat
    isplitl [Hf]; · iexact Hf
    iexact Ht
  iintro ⟨HO, Hat, ⟨Hsrc, Hi⟩, Ht⟩
  rw [Prog.pure_eq_ret]
  iapply (wp_done c)
  isplitl [HO Hf2 Hi Ht]
  · isplitl [HO]; · iexact HO
    isplitl [Hf2]; · iexact Hf2
    isplitl [Hi]; · iexact Hi
    iexact Ht
  isplitl [Hsrc]; · iexact Hsrc
  iexact Hat

/-! ## The maxima -/

/-- A copy of the local maximum on its way. -/
def maxFl (r : Fin 7) : sProp 𝕄 := Flight EC (c : Thread nD τ) (.dma (asendS r)) () NA
  (owns (c : Thread nD τ) asrc (shareTok fullShare 7 r) (spread (lmax m c)))

theorem credit_aslot (k : Fin 8) : (aslotM k).view.dmaCredit = amountOf' (some (kMax 0)) := rfl

theorem max_send_core (r : Fin 7) (n : Dev nD) (hn : n = far c (nxt r)) (k : Fin 8) (hk : k = nxt (Fin.rev r))
    {hsc : (aslotM k).view.ref.isScScratch = false} {hsrc : asrc.view.WordExact} {hdst : (aslotM k).view.WordExact}
    {hsem : DmaTarget.Typed (nD := nD) (τ := τ) (p := .tc) .vmem (.dma (arecvS k)) (.remote (Dev.tc n : Thread nD τ) (aslotM k) (.dma (asendS r)) hsc)} :
    iprop(owing m K c (owedMax c r.val) ∗ (dutyTok ER (cell (far c (nxt r)) (kMax (Fin.rev r))) 0 0
        ∗ owns (c : Thread nD τ) asrc (shareTok fullShare 7 r) (spread (lmax m c))
        ∗ ownsE (far c (nxt r)) (aslotM k) ∗ semVal ((c : Thread nD τ), .dma (asendS r)) 0))
      ⊢ Wp c (Prog.lift (.enqueueDma asrc (.remote (Dev.tc n) (aslotM k) (.dma (asendS r)) hsc) (.dma (arecvS k)) hsrc hdst hsem))
          (fun _ => iprop(owing m K c (owedMax c (r.val + 1)) ∗ maxFl m c r)) := by
  subst hn hk
  unfold owing maxFl Prog.lift
  iintro ⟨⟨#HR, %W, HO⟩, Ht, Hs, Hd, Hv⟩
  ihave #Hi := (records_inv m K (far c (nxt r)) (kMax (Fin.rev r))) $$ HR
  ihave #Hr := (records_reached m K (far c (nxt r)) (kMax (Fin.rev r))) $$ HR
  iapply (wp_copy_there c (by decide) (rd m) (c' := far c (nxt r)) (κ := K (far c (nxt r), kMax (Fin.rev r))) (d := 0)
    (by rw [show ((far c (nxt r) : Thread nD τ), (SemLoc.dma (arecvS (nxt (Fin.rev r))) : SemLoc sig)) = cell (far c (nxt r)) (kMax (Fin.rev r)) from rfl, rd_duties]
        exact Finset.mem_singleton_self _)
    ((rd_amount m (far c (nxt r)) (kMax (Fin.rev r)) 0).trans (credit_aslot _).symm)
    (X := spread (lmax m c))
    (by
      rw [show (rd m).payload ((far c (nxt r) : Thread nD τ), (SemLoc.dma (arecvS (nxt (Fin.rev r))) : SemLoc sig)) 0 0 = maxPay m (far c (nxt r)) (Fin.rev r)
        from rd_payload m (far c (nxt r)) (kMax (Fin.rev r)) 0]
      unfold maxPay
      rw [far_back])
    (O₀ := owedMax c r.val) (owedMax c (r.val + 1)) (by rw [owedMax, left_step]) (W := W) (by routes)) $$ [Ht Hs Hd Hv HO]
  · isplitr; · iexact Hi
    isplitl [Ht]; · iexact Ht
    isplitr; · iexact Hr
    isplitl [Hs]; · iexact Hs
    isplitl [Hd]; · iexact Hd
    isplitl [Hv]; · iexact Hv
    iexact HO
  iintro ⟨Hf, HO⟩
  iapply (wp_done c)
  isplitl [HO]
  · isplitr; · iexact HR
    iexists W; iexact HO
  iexact Hf

theorem max_send (r : Fin 7) :
    iprop(owing m K c (owedMax c r.val) ∗ (dutyTok ER (cell (far c (nxt r)) (kMax (Fin.rev r))) 0 0
        ∗ owns (c : Thread nD τ) asrc (shareTok fullShare 7 r) (spread (lmax m c))
        ∗ ownsE (far c (nxt r)) (aslotM (opp r)) ∗ semVal ((c : Thread nD τ), .dma (asendS r)) 0))
      ⊢ Wp c (maxSend c r) (fun _ => iprop(owing m K c (owedMax c (r.val + 1)) ∗ maxFl m c r)) :=
  max_send_core m K c r _ (maxDev_eq c r) _ (opp_eq r)

theorem max_recv (i : Fin 7) :
    iprop(owing m K c 0 ∗ (atPos ER (cell c (kMax i)) 0 ∅ 0 ∗ cred (tallyAt (cell c (kMax i)) () NA)))
      ⊢ Wp c (maxRecv i) (fun a => iprop(⌜a = lmax m (far c (nxt i))⌝ ∗ owing m K c 0 ∗ (atPos ER (cell c (kMax i)) 1 ∅ 0 ∗ ownsE c (aslotM (nxt i))))) := by
  unfold owing maxRecv
  simp only [Prog.lift, Prog.bind_op, Prog.bind_ret, Prog.pure_eq_ret]
  iintro ⟨⟨#HR, %W, HO⟩, Hat, Hc⟩
  ihave #Hi := (records_inv m K c (kMax i)) $$ HR
  iapply (Rounds.wp_wait_rest_token 𝒱₀ ER (rd m) (c : Thread nD τ) none (κ := K (c, kMax i))
      (wpE_waitDma2_eq 𝒱₀ (c : Thread nD τ) none Set.univ) (Set.mem_univ _) () (O := 0) (W := W) (R := 0) (m := 0) (T := ∅)
      (by rw [show (rd m).expect ((c : Thread nD τ), (SemLoc.dma (arecvS (nxt i)) : SemLoc sig)) 0 = NA from rd_expect m c (kMax i), Nat.zero_add])) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (rest_max m c i)) $$ Hpay
  unfold maxPay
  iapply (wp_load_within c (sub_acell (nxt i)) (fun _ => lmax m (far c (nxt i))) (val_acell (nxt i) _)) $$ Hp
  iintro Hp
  iapply (wp_done c)
  isplitr; · ipureintro; rfl
  isplitl [HO]
  · isplitr; · iexact HR
    iexists _; iexact HO
  isplitl [Hat]; · iexact Hat
  iexists _; iexact Hp

theorem max_left (r : Fin 7) :
    iprop(owing m K c 0 ∗ maxFl m c r)
      ⊢ Wp c (maxLeft r) (fun _ => iprop(owing m K c 0 ∗ (semVal ((c : Thread nD τ), .dma (asendS r)) 0
          ∗ owns (c : Thread nD τ) asrc (shareTok fullShare 7 r) (spread (lmax m c))))) := by
  unfold maxLeft owing maxFl Prog.lift
  iintro ⟨⟨#HR, %W, HO⟩, Hf⟩
  iapply (wp_wait_flight c rfl) $$ [Hf HO]
  · isplitl [Hf]; · iexact Hf
    isplitl [HO]; · iexact HO
    rw [MayWait_zero]; iempintro
  iintro ⟨Hx, Hv, HO⟩
  iapply (wp_done c)
  isplitl [HO]
  · isplitr; · iexact HR
    iexists _; iexact HO
  isplitl [Hv]; · iexact Hv
  iexact Hx

end Cert.KernelIdeal.Amax

end
-- ==== Proof.Body.lean ====
/- The body, run once on a symbolic device: the steps in program order, from the pieces it starts with to the pieces it leaves. -/
module

public import proofs.«01_k».proof.Proof.Steps2

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

variable (m : (ℓ : Loc nD τ sig) → Buf (Elt F) ℓ) (K : Dev nD × Kind' → ℕ) (c : Dev nD)

/-! ## Families taken apart -/

section Families
omit [FloatOps F]

theorem bigSep_fin_last {n : ℕ} (Φ : Fin (n + 1) → sProp 𝕄) :
    bigSep Finset.univ Φ = iprop((bigSep Finset.univ fun i : Fin n => Φ i.castSucc) ∗ Φ (Fin.last n)) := by
  rw [Fin.univ_castSuccEmb, Finset.cons_eq_insert, bigSep_insert (by simp [Fin.castSucc_ne_last]), bigSep_map]
  have h₁ : ∀ P Q : sProp 𝕄, iprop(P ∗ Q) ⊢ iprop(Q ∗ P) := fun P Q => by
    iintro ⟨H, H'⟩
    isplitl [H']; · iexact H'
    iexact H
  exact BI.equiv_iff.mp ⟨h₁ _ _, h₁ _ _⟩

theorem fin8_front (Φ : Fin 8 → sProp 𝕄) :
    bigSep Finset.univ Φ = iprop(Φ 0 ∗ Φ 1 ∗ bigSep Finset.univ fun i : Fin 6 => Φ ⟨i.val + 2, by omega⟩) := by
  rw [bigSep_fin_succ, bigSep_fin_succ]; rfl
theorem fin8_back (Φ : Fin 8 → sProp 𝕄) :
    bigSep Finset.univ Φ = iprop(((bigSep Finset.univ fun i : Fin 6 => Φ ⟨i.val, by omega⟩) ∗ Φ 6) ∗ Φ 7) := by
  rw [bigSep_fin_last, bigSep_fin_last]; rfl
theorem fin8_tail (Φ : Fin 8 → sProp 𝕄) : bigSep Finset.univ Φ = iprop(Φ 0 ∗ bigSep Finset.univ fun r : Fin 7 => Φ (nxt r)) :=
  bigSep_fin_succ Φ
theorem fin7_back (Φ : Fin 7 → sProp 𝕄) : bigSep Finset.univ Φ = iprop((bigSep Finset.univ fun i : Fin 6 => Φ i.castSucc) ∗ Φ 6) :=
  bigSep_fin_last Φ
theorem fin7_rev (Φ : Fin 7 → sProp 𝕄) : bigSep Finset.univ Φ = bigSep Finset.univ fun i : Fin 7 => Φ (Fin.rev i) :=
  bigSep_univ_equiv Fin.revPerm Φ

theorem bigSep_sep3 {n : ℕ} (A B C : Fin n → sProp 𝕄) :
    (bigSep Finset.univ fun i => iprop(A i ∗ (B i ∗ C i))) = iprop(bigSep Finset.univ A ∗ bigSep Finset.univ B ∗ bigSep Finset.univ C) := by
  rw [bigSep_sep', bigSep_sep']

end Families

/-! ## What the body starts with and what it leaves -/

def stgIdle (s : Fin 2) : sProp 𝕄 := iprop(ownsE c (stgSlot s) ∗ semVal ((c : Thread nD τ), .dma (stgS s)) 0)
/-- The device's position in its cells: `R` rounds done. -/
def posAt (R : ℕ) : sProp 𝕄 :=
  iprop(atPos ER (cell c kBar) R ∅ 0 ∗ (bigSep Finset.univ fun i => atPos ER (cell c (kRow i)) R ∅ 0) ∗ bigSep Finset.univ fun i => atPos ER (cell c (kMax i)) R ∅ 0)
/-- The duties it pays. -/
def toks : sProp 𝕄 :=
  iprop((bigSep Finset.univ fun r => dutyTok ER (cell (far c (nxt r)) kBar) 0 r)
    ∗ (bigSep Finset.univ fun r => dutyTok ER (cell (far c (nxt r)) (kRow (Fin.rev r))) 0 0)
    ∗ bigSep Finset.univ fun r => dutyTok ER (cell (far c (nxt r)) (kMax (Fin.rev r))) 0 0)
/-- What its cells are owed. -/
def creds : sProp 𝕄 :=
  iprop(cred (tallyAt (cell c kBar) () 7) ∗ (bigSep Finset.univ fun i => cred (tallyAt (cell c (kRow i)) () NB))
    ∗ bigSep Finset.univ fun i => cred (tallyAt (cell c (kMax i)) () NA))
/-- The pieces of its buffers, with the counters of the local transfers and of the sends. -/
def held (xb : Fin 8 → sProp 𝕄) (t : sProp 𝕄) : sProp 𝕄 :=
  iprop((bigSep Finset.univ fun r => semVal ((c : Thread nD τ), .dma (bsendS r)) 0) ∗ (bigSep Finset.univ fun r => semVal ((c : Thread nD τ), .dma (asendS r)) 0)
    ∗ (wIdle c 0 ∗ wIdle c 1) ∗ (stgIdle c 0 ∗ stgIdle c 1)
    ∗ (bigSep Finset.univ fun j => owns (c : Thread nD τ) (xRows j) fullShare (xRow m c j)) ∗ (bigSep Finset.univ fun k => wSrc m c k)
    ∗ (bigSep Finset.univ xb) ∗ (bigSep Finset.univ fun r : Fin 7 => ownsE c (slotM (nxt r))) ∗ (bigSep Finset.univ fun r : Fin 7 => ownsE c (aslotM (nxt r)))
    ∗ ownsE c asrc ∗ t)

/-! ## The phases -/

/-- The signals: every other device is told its two slots here are ready. -/
theorem phase_signal (R : CellTallies nD τ sig Unit) :
    iprop(owing m K c (R + owedBar c 0) ∗ (bigSep Finset.univ fun r => dutyTok ER (cell (far c (nxt r)) kBar) 0 r)
        ∗ (bigSep Finset.univ fun r : Fin 7 => ownsE c (slotM (nxt r))) ∗ (bigSep Finset.univ fun r : Fin 7 => ownsE c (aslotM (nxt r))))
      ⊢ Wp c (seqN 7 fun r => semSignalWord (sigDev c r) barS 1#32) (fun _ => owing m K c R) := by
  have h := wp_seqN c 7 (fun r => semSignalWord (sigDev c r) barS 1#32) (fun n => owing m K c (R + owedBar c n)) _ _ (signal_step m K c R)
  rw [bigSep_sep', bigSep_sep'] at h
  refine h.trans (wp_mono _ _ _ fun _ => ?_)
  rw [owedBar, left_end, add_zero]
  iintro ⟨H, -⟩; iexact H

/-- The staging: the rows of `x` rounded, block by block. -/
theorem phase_stage (O : CellTallies nD τ sig Unit) (hO : Above 0 O) {β : Type} {k : Tc F β} {Q : β → sProp 𝕄} :
    iprop(owing m K c O ∗ (stgIdle c 0 ∗ stgIdle c 1) ∗ (bigSep Finset.univ fun j => owns (c : Thread nD τ) (xRows j) fullShare (xRow m c j))
        ∗ (bigSep Finset.univ fun j => ownsE c (xbfM j)))
      ⊢ iprop((iprop(owing m K c O ∗ (stgIdle c 0 ∗ stgIdle c 1) ∗ (bigSep Finset.univ fun j => owns (c : Thread nD τ) (xRows j) fullShare (xRow m c j))
          ∗ (bigSep Finset.univ fun j => owns (c : Thread nD τ) (xbfM j) fullShare (xbfRow m c j))) -∗ Wp c k Q)
        -∗ Wp c (stgCopy 0 >>= fun _ => stgCopy 1 >>= fun _ => seqN 6 stgStep >>= fun _ => stgRound 6 >>= fun _ => stgRound 7 >>= fun _ => k) Q) := by
  rw [fin8_front (fun j => owns (c : Thread nD τ) (xRows j) fullShare (xRow m c j)), fin8_back (fun j => ownsE c (xbfM j))]
  unfold stgIdle
  iintro ⟨HO, ⟨⟨Hs0, Hv0⟩, Hs1, Hv1⟩, ⟨Hx0, Hx1, Hx⟩, ⟨Hb, Hb6⟩, Hb7⟩ Hk
  iapply (wp_step c (stg_copy m c 0)) $$ [Hx0 Hs0 Hv0]
  · isplitl [Hx0]; · iexact Hx0
    isplitl [Hs0]; · iexact Hs0
    iexact Hv0
  iintro Hf0
  iapply (wp_step c (stg_copy m c 1)) $$ [Hx1 Hs1 Hv1]
  · isplitl [Hx1]; · iexact Hx1
    isplitl [Hs1]; · iexact Hs1
    iexact Hv1
  iintro Hf1
  have hloop := wp_seqN c 6 stgStep (fun n => iprop(owing m K c O ∗ stgFl m c (at8 n) ∗ stgFl m c (at8 (n + 1)))) _ _ (stg_step m K c O hO)
  rw [bigSep_sep', bigSep_sep'] at hloop
  iapply (wp_step c hloop) $$ [HO Hf0 Hf1 Hx Hb]
  · isplitl [HO Hf0 Hf1]
    · isplitl [HO]; · iexact HO
      isplitl [Hf0]; · iexact Hf0
      iexact Hf1
    isplitl [Hx]; · iexact Hx
    iexact Hb
  iintro ⟨⟨HO, Hf6, Hf7⟩, Hx, Hb⟩
  iapply (wp_step c (stg_round m K c O hO 6)) $$ [HO Hf6 Hb6]
  · isplitl [Hf6]; · iexact Hf6
    isplitl [HO]; · iexact HO
    iexact Hb6
  iintro ⟨⟨HO, Hs0, Hv0⟩, Hx6, Hb6⟩
  iapply (wp_step c (stg_round m K c O hO 7)) $$ [HO Hf7 Hb7]
  · isplitl [Hf7]; · iexact Hf7
    isplitl [HO]; · iexact HO
    iexact Hb7
  iintro ⟨⟨HO, Hs1, Hv1⟩, Hx7, Hb7⟩
  iapply Hk
  isplitl [HO]; · iexact HO
  isplitl [Hs0 Hv0 Hs1 Hv1]
  · isplitl [Hs0 Hv0]
    · isplitl [Hs0]; · iexact Hs0
      iexact Hv0
    isplitl [Hs1]; · iexact Hs1
    iexact Hv1
  isplitl [Hx Hx6 Hx7]
  · iapply (Entails.of_eq ((fin8_back (fun j => (owns (c : Thread nD τ) (xRows j) fullShare (xRow m c j) : sProp 𝕄))).symm.trans (fin8_front _)))
    isplitl [Hx Hx6]
    · isplitl [Hx]; · iexact Hx
      iexact Hx6
    iexact Hx7
  iapply (Entails.of_eq (fin8_back (fun j => (owns (c : Thread nD τ) (xbfM j) fullShare (xbfRow m c j) : sProp 𝕄))).symm)
  isplitl [Hb Hb6]
  · isplitl [Hb]; · iexact Hb
    iexact Hb6
  iexact Hb7

/-- The sends of the rows. -/
theorem phase_send :
    iprop(owing m K c (owedMax c 0 + owedRows c 0) ∗ (bigSep Finset.univ fun r => dutyTok ER (cell (far c (nxt r)) (kRow (Fin.rev r))) 0 0)
        ∗ (bigSep Finset.univ fun r : Fin 7 => owns (c : Thread nD τ) (xbfM (far c (nxt r))) fullShare (xbfRow m c (far c (nxt r))))
        ∗ (bigSep Finset.univ fun r => ownsE (far c (nxt r)) (slotM (opp r))) ∗ (bigSep Finset.univ fun r => semVal ((c : Thread nD τ), .dma (bsendS r)) 0))
      ⊢ Wp c (seqN 7 fun r => rowSend c (Fin.rev r)) (fun _ => iprop(owing m K c (owedMax c 0) ∗ bigSep Finset.univ fun i => rowFl m c (Fin.rev i))) := by
  have h := wp_seqN c 7 (fun r => rowSend c (Fin.rev r)) (fun n => owing m K c (owedMax c 0 + owedRows c n)) _ _ (row_send m K c (owedMax c 0))
  rw [bigSep_sep', bigSep_sep', bigSep_sep'] at h
  rw [show owedRows c 7 = 0 from left_end _, add_zero] at h
  rw [fin7_rev (fun r => dutyTok ER (cell (far c (nxt r)) (kRow (Fin.rev r))) 0 0), fin7_rev (fun r => owns (c : Thread nD τ) (xbfM (far c (nxt r))) fullShare (xbfRow m c (far c (nxt r)))),
    fin7_rev (fun r => ownsE (far c (nxt r)) (slotM (opp r))), fin7_rev (fun r => semVal ((c : Thread nD τ), .dma (bsendS r)) 0)]
  exact h

/-- Steps one to six. -/
theorem phase_mid (O : CellTallies nD τ sig Unit) (hO : Above 2 O) (hO' : Above 0 O) :
    iprop((owing m K c O ∗ wFl m c 1 ∗ wIdle c 0 ∗ tiles c (acc m c 0)) ∗ (bigSep Finset.univ fun i : Fin 6 => wSrc m c ⟨i.val + 2, by omega⟩)
        ∗ (bigSep Finset.univ fun i : Fin 6 => atPos ER (cell c (kRow i.castSucc)) 0 ∅ 0) ∗ (bigSep Finset.univ fun i : Fin 6 => cred (tallyAt (cell c (kRow i.castSucc)) () NB)))
      ⊢ Wp c (seqN 6 (stepMid c)) (fun _ => iprop((owing m K c O ∗ wFl m c 7 ∗ wIdle c 0 ∗ tiles c (acc m c 6))
        ∗ (bigSep Finset.univ fun i : Fin 6 => wSrc m c (nxt i.castSucc))
        ∗ (bigSep Finset.univ fun i : Fin 6 => atPos ER (cell c (kRow i.castSucc)) 1 ∅ 0) ∗ (bigSep Finset.univ fun i : Fin 6 => ownsE c (slotM (nxt i.castSucc))))) := by
  have h := wp_seqN c 6 (stepMid c) (fun n => iprop(owing m K c O ∗ wFl m c (at8 (n + 1)) ∗ wIdle c (par (at8 n)) ∗ tiles c (acc m c n))) _ _
    (fun i => step_mid m K c O hO hO' i)
  refine (BIBase.Entails.trans (sep_mono_right (Entails.of_eq (bigSep_sep3 _ _ _).symm)) h).trans
    (wp_mono _ _ _ fun _ => sep_mono_right (Entails.of_eq (bigSep_sep3 _ _ _)))

/-- The local maximum shared out among its sends, and put together again. -/
theorem asrc_split (X : S8x128.Idx → Elt F .f32) :
    (owns (c : Thread nD τ) asrc fullShare X : sProp 𝕄)
      ⊢ iprop(owns (c : Thread nD τ) asrc (shareDrop fullShare 7) X ∗ bigSep Finset.univ fun i : Fin 7 => owns (c : Thread nD τ) asrc (shareTok fullShare 7 i) X) := by
  simp only [owns_whole]
  exact pointsTo_toks_split fullShare 7
theorem asrc_join (X : S8x128.Idx → Elt F .f32) :
    iprop(owns (c : Thread nD τ) asrc (shareDrop fullShare 7) X ∗ bigSep Finset.univ fun i : Fin 7 => owns (c : Thread nD τ) asrc (shareTok fullShare 7 i) X)
      ⊢ (owns (c : Thread nD τ) asrc fullShare X : sProp 𝕄) := by
  simp only [owns_whole]
  exact pointsTo_toks_join fullShare 7

theorem asrc_store {α : Type} {Q : α → sProp 𝕄} {w : asrcR.shape.Idx → Elt F .f32} {hx : (asrc.access asrcR).Stores Finset.univ}
    {hl : asrc.view.LoadsAt asrcR.toLoadRect}
    {hm : (Finset.univ : Finset asrcR.shape.Idx) = Finset.univ ∨ ∀ a, asrcR.stride a = 1} {k : PUnit → Tc F α} :
    ownsE c asrc ⊢ iprop((owns (c : Thread nD τ) asrc fullShare w -∗ Wp c (k ⟨⟩) Q)
      -∗ Wp c (.op (.load asrc asrcR.toLoadRect hl) fun _ => .op (.store asrc asrcR w Finset.univ hx hm) k) Q) := by
  unfold ownsE
  simp only [owns_whole]
  iintro ⟨%Y, H⟩ Hk
  iapply (wp_load 𝒱₀ (c : Thread nD τ) none Set.univ (m := asrc) (Finset.subset_univ _)) $$ H; iintro H
  iapply (wp_store 𝒱₀ (c : Thread nD τ) none Set.univ (m := asrc) (r := asrcR) (Mk := Finset.univ) (Finset.subset_univ _)) $$ H; iintro H
  have hz : (![0, 0] : Fin 2 → Nat) = fun _ => 0 := funext fun a => by fin_cases a <;> rfl
  rw [show (asrc.access asrcR : View sig .tc _ _ _).write (Elt F) Y w Finset.univ = w from Memref.write_access_unit_zero_univ (Elt F) cc0_scratch4 hz _ Y w]
  iapply Hk; iexact H

/-- The exchange of the maxima. -/
theorem phase_maxSend :
    iprop(owing m K c (owedMax c 0) ∗ (bigSep Finset.univ fun r => dutyTok ER (cell (far c (nxt r)) (kMax (Fin.rev r))) 0 0)
        ∗ (bigSep Finset.univ fun r => owns (c : Thread nD τ) asrc (shareTok fullShare 7 r) (spread (lmax m c)))
        ∗ (bigSep Finset.univ fun r => ownsE (far c (nxt r)) (aslotM (opp r))) ∗ (bigSep Finset.univ fun r => semVal ((c : Thread nD τ), .dma (asendS r)) 0))
      ⊢ Wp c (seqN 7 (maxSend c)) (fun _ => iprop(owing m K c 0 ∗ bigSep Finset.univ fun r => maxFl m c r)) := by
  have h := wp_seqN c 7 (maxSend c) (fun n => owing m K c (owedMax c n)) _ _ (max_send m K c)
  rw [bigSep_sep', bigSep_sep', bigSep_sep'] at h
  rw [show owedMax c 7 = 0 from left_end _] at h
  exact h
theorem phase_maxRecv :
    iprop(owing m K c 0 ∗ (bigSep Finset.univ fun i => atPos ER (cell c (kMax i)) 0 ∅ 0) ∗ (bigSep Finset.univ fun i => cred (tallyAt (cell c (kMax i)) () NA)))
      ⊢ Wp c (collectN 7 maxRecv) (fun a => iprop(⌜a = fun i => lmax m (far c (nxt i))⌝ ∗ owing m K c 0
          ∗ (bigSep Finset.univ fun i => atPos ER (cell c (kMax i)) 1 ∅ 0) ∗ (bigSep Finset.univ fun i => ownsE c (aslotM (nxt i))))) := by
  have h := wp_collectN c 7 maxRecv (fun i => lmax m (far c (nxt i))) (fun _ => owing m K c 0) _ _ (max_recv m K c)
  rw [bigSep_sep', bigSep_sep'] at h
  exact h
theorem phase_rowLeft :
    iprop(owing m K c 0 ∗ (bigSep Finset.univ fun i => rowFl m c (Fin.rev i)))
      ⊢ Wp c (seqN 7 (rowLeft c)) (fun _ => iprop(owing m K c 0 ∗ (bigSep Finset.univ fun r => semVal ((c : Thread nD τ), .dma (bsendS r)) 0)
          ∗ (bigSep Finset.univ fun r : Fin 7 => owns (c : Thread nD τ) (xbfM (far c (nxt r))) fullShare (xbfRow m c (far c (nxt r)))))) := by
  have h := wp_seqN c 7 (rowLeft c) (fun _ => owing m K c 0) _ _ (row_left m K c)
  rw [bigSep_sep'] at h
  rw [fin7_rev (fun r => owns (c : Thread nD τ) (xbfM (far c (nxt r))) fullShare (xbfRow m c (far c (nxt r)))), fin7_rev (fun r => semVal ((c : Thread nD τ), .dma (bsendS r)) 0)]
  exact h
theorem phase_maxLeft :
    iprop(owing m K c 0 ∗ (bigSep Finset.univ fun r => maxFl m c r))
      ⊢ Wp c (seqN 7 maxLeft) (fun _ => iprop(owing m K c 0 ∗ (bigSep Finset.univ fun r => semVal ((c : Thread nD τ), .dma (asendS r)) 0)
          ∗ (bigSep Finset.univ fun r => owns (c : Thread nD τ) asrc (shareTok fullShare 7 r) (spread (lmax m c))))) := by
  have h := wp_seqN c 7 maxLeft (fun _ => owing m K c 0) _ _ (max_left m K c)
  rw [bigSep_sep'] at h
  exact h
theorem phase_quant (g : F .f32) (o : Fin 8 → FVec F S512x1024 .f32) :
    tiles c o ⊢ Wp c (seqN 8 (quantTile g)) (fun _ => tiles c fun n => quant g (o n)) := by
  have h := wp_seqN c 8 (quantTile g) (fun _ => iprop(emp)) _ _ (quant_tile c g o)
  refine BIBase.Entails.trans ?_ (h.trans (wp_mono _ _ _ fun _ => ?_))
  · unfold tiles; iintro H
    isplitr; · iempintro
    iexact H
  · unfold tiles; iintro ⟨-, H⟩; iexact H

/-! ## The whole body -/

theorem farEquiv_bij : ∀ c : Dev nD, Function.Injective (far c) := by decide
/-- The devices counted from `c`. -/
def farEquiv : Fin 8 ≃ Dev nD := Equiv.ofBijective (far c) (Finite.injective_iff_bijective.mp (farEquiv_bij c))

omit [FloatOps F] in
/-- A family over row blocks, the device's own first and the others in the order of the devices after it. -/
theorem by_far (Φ : Fin 8 → sProp 𝕄) : bigSep Finset.univ Φ = iprop(Φ c ∗ bigSep Finset.univ fun r : Fin 7 => Φ (far c (nxt r))) := by
  rw [bigSep_univ_equiv (farEquiv c) Φ, fin8_tail]
  show iprop(Φ (far c 0) ∗ _) = _
  rw [far_zero]; rfl

set_option maxHeartbeats 1600000 in
theorem sound_body :
    iprop(owing m K c (O₀ c) ∗ posAt c 0 ∗ toks c ∗ creds c ∗ held m c (fun j => ownsE c (xbfM j)) (bigSep Finset.univ fun n => ownsE c (tileM n)))
      ⊢ Wp c body (fun _ => iprop(owing m K c 0 ∗ posAt c 1 ∗ held m c (fun j => owns (c : Thread nD τ) (xbfM j) fullShare (xbfRow m c j)) (tiles c (outTile m c)))) := by
  unfold body posAt toks creds held
  simp only [Prog.lift, Prog.bind_op, Prog.bind_ret, wp_deviceId]
  rw [by_far c (fun j => owns (c : Thread nD τ) (xbfM j) fullShare (xbfRow m c j)), fin8_front (fun k => wSrc m c k),
    fin7_back (fun i => atPos ER (cell c (kRow i)) 0 ∅ 0), fin7_back (fun i => cred (tallyAt (cell c (kRow i)) () NB))]
  iintro ⟨HO, ⟨HpB, ⟨HpR, HpR6⟩, HpM⟩, ⟨HtB, HtR, HtM⟩, ⟨HcB, ⟨HcR, HcR6⟩, HcM⟩, HsB, HsA, ⟨Hw0, Hw1⟩, Hstg, Hx, ⟨HW0, HW1, HW⟩, Hb, Hsl, Hal, Ha, Ht⟩
  unfold O₀
  iapply (wp_step c (phase_signal m K c (owedMax c 0 + owedRows c 0))) $$ [HO HtB Hsl Hal]
  · isplitl [HO]; · iexact HO
    isplitl [HtB]; · iexact HtB
    isplitl [Hsl]; · iexact Hsl
    iexact Hal
  iintro HO
  iapply (phase_stage m K c (owedMax c 0 + owedRows c 0) ((above_max c 0 (by decide)).add (above_rows c 0 (by decide)))) $$ [HO Hstg Hx Hb]
  · isplitl [HO]; · iexact HO
    isplitl [Hstg]; · iexact Hstg
    isplitl [Hx]; · iexact Hx
    iexact Hb
  iintro ⟨HO, Hstg, Hx, Hb⟩
  iapply (wp_step c (bar_wait m K c (owedMax c 0 + owedRows c 0) ((above_max c 0 (by decide)).add (above_rows c 0 (by decide))))) $$ [HO HpB HcB]
  · isplitl [HO]; · iexact HO
    isplitl [HpB]; · iexact HpB
    iexact HcB
  iintro ⟨HO, HpB, Hfar⟩
  ihave Hfar' := (Entails.of_eq (bigSep_sep' _ _ _)) $$ Hfar
  icases Hfar' with ⟨Hfs, Hfa⟩
  ihave Hb' := (Entails.of_eq (by_far c (fun j => (owns (c : Thread nD τ) (xbfM j) fullShare (xbfRow m c j) : sProp 𝕄)))) $$ Hb
  icases Hb' with ⟨Hbc, Hb⟩
  iapply (wp_step c (phase_send m K c)) $$ [HO HtR Hb Hfs HsB]
  · isplitl [HO]; · iexact HO
    isplitl [HtR]; · iexact HtR
    isplitl [Hb]; · iexact Hb
    isplitl [Hfs]; · iexact Hfs
    iexact HsB
  iintro ⟨HO, Hrf⟩
  iapply (wp_step c (step_first m K c (owedMax c 0) (above_max c 0 (by decide)))) $$ [HO HW0 Hw0 HW1 Hw1 Hbc Ht]
  · isplitl [HO]; · iexact HO
    isplitl [HW0 Hw0]
    · isplitl [HW0]; · iexact HW0
      iexact Hw0
    isplitl [HW1 Hw1]
    · isplitl [HW1]; · iexact HW1
      iexact Hw1
    isplitl [Hbc]; · iexact Hbc
    iexact Ht
  iintro ⟨HO, ⟨HW0, Hw0⟩, Hf1, Hbc, Ht⟩
  iapply (wp_step c (phase_mid m K c (owedMax c 0) (above_max c 0 (by decide)) (above_max c 0 (by decide)))) $$ [HO Hf1 Hw0 Ht HW HpR HcR]
  · isplitl [HO Hf1 Hw0 Ht]
    · isplitl [HO]; · iexact HO
      isplitl [Hf1]; · iexact Hf1
      isplitl [Hw0]; · iexact Hw0
      iexact Ht
    isplitl [HW]; · iexact HW
    isplitl [HpR]; · iexact HpR
    iexact HcR
  iintro ⟨⟨HO, Hf7, Hw0, Ht⟩, HW, HpR, Hsl⟩
  iapply (wp_step_val c (step_tiles m K c (owedMax c 0) (above_max c 0 (by decide)) (above_max c 0 (by decide)) 6)) $$ [HO HpR6 HcR6 Hf7 Ht]
  · isplitl [HO]; · iexact HO
    isplitl [HpR6 HcR6]
    · isplitl [HpR6]; · iexact HpR6
      iexact HcR6
    isplitl [Hf7]; · iexact Hf7
    iexact Ht
  iintro ⟨HO, ⟨HpR6, Hsl7⟩, ⟨HW7, Hw1⟩, Ht⟩
  iapply (asrc_store c) $$ Ha
  iintro Ha
  ihave Ha' := (asrc_split c _) $$ Ha
  icases Ha' with ⟨Hdrop, Ha⟩
  iapply (wp_step c (phase_maxSend m K c)) $$ [HO HtM Ha Hfa HsA]
  · isplitl [HO]; · iexact HO
    isplitl [HtM]; · iexact HtM
    isplitl [Ha]; · iexact Ha
    isplitl [Hfa]; · iexact Hfa
    iexact HsA
  iintro ⟨HO, Hmf⟩
  iapply (wp_step_val c (phase_maxRecv m K c)) $$ [HO HpM HcM]
  · isplitl [HO]; · iexact HO
    isplitl [HpM]; · iexact HpM
    iexact HcM
  iintro ⟨HO, HpM, Hal⟩
  iapply (wp_step c (phase_rowLeft m K c)) $$ [HO Hrf]
  · isplitl [HO]; · iexact HO
    iexact Hrf
  iintro ⟨HO, HsB, Hb⟩
  iapply (wp_step c (phase_maxLeft m K c)) $$ [HO Hmf]
  · isplitl [HO]; · iexact HO
    iexact Hmf
  iintro ⟨HO, HsA, Ha⟩
  ihave Ha' := (asrc_join c _) $$ [Hdrop Ha]
  · isplitl [Hdrop]; · iexact Hdrop
    iexact Ha
  iapply (wp_frame_step c (phase_quant c _ _)) $$ Ht
  iintro %_ Ht
  isplitl [HO]; · iexact HO
  isplitl [HpB HpR HpR6 HpM]
  · isplitl [HpB]; · iexact HpB
    isplitl [HpR HpR6]
    · iapply (Entails.of_eq (fin7_back (fun i => (atPos ER (cell c (kRow i)) 1 ∅ 0 : sProp 𝕄))).symm)
      isplitl [HpR]; · iexact HpR
      iexact HpR6
    iexact HpM
  isplitl [HsB]; · iexact HsB
  isplitl [HsA]; · iexact HsA
  isplitl [Hw0 Hw1]
  · isplitl [Hw0]; · iexact Hw0
    iexact Hw1
  isplitl [Hstg]; · iexact Hstg
  isplitl [Hx]; · iexact Hx
  isplitl [HW0 HW HW7]
  · iapply (Entails.of_eq ((fin8_front (fun k => (wSrc m c k : sProp 𝕄))).symm.trans ((fin8_tail _).trans (congrArg (fun P => iprop(wSrc m c 0 ∗ P)) (fin7_back _)))).symm)
    isplitl [HW0]; · iexact HW0
    isplitl [HW]; · iexact HW
    iexact HW7
  isplitl [Hbc Hb]
  · isplitl [Hbc]; · iexact Hbc
    iexact Hb
  isplitl [Hsl Hsl7]
  · iapply (Entails.of_eq (fin7_back (fun r => (ownsE c (slotM (nxt r)) : sProp 𝕄))).symm)
    isplitl [Hsl]; · iexact Hsl
    iexact Hsl7
  isplitl [Hal]; · iexact Hal
  isplitl [Ha']; · iexists _; iexact Ha'
  iexact Ht

end Cert.KernelIdeal.Amax

end
-- ==== Proof.Pieces.lean ====
/- What a device holds when the body begins, cut into the pieces the steps work on, and put together again when the body is done. -/
module

public import proofs.«01_k».proof.Proof.Body

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## Pieces with a unit axis dropped -/

section Squeezed

variable (c : Dev nD) {sp : Space} {s s' : Shape} {e : EltTy} (m : Memref sig .tc sp s e) {n : ℕ} {r : Fin n → Rect s} (ht : Tiling r)
  (h : ∀ t, (r t).shape.Squeezes s')

omit [FloatOps F] in
theorem ownsE_cut : (ownsE (F := F) c m : sProp 𝕄) ⊢ bigSep Finset.univ fun t => ownsE c ((m.slice (r t) (ht.unit t)).squeeze s' (h t)) :=
  (ownsE_pieces c m ht).trans (Entails.of_eq (bigSep_congr fun t _ => (ownsE_squeeze c _ (h t)).symm))
theorem ownsE_join : (bigSep Finset.univ fun t => ownsE (F := F) c ((m.slice (r t) (ht.unit t)).squeeze s' (h t))) ⊢ ownsE c m :=
  (Entails.of_eq (bigSep_congr fun t _ => ownsE_squeeze c _ (h t))).trans (ownsE_glue c m ht)

end Squeezed

section Bufs

variable (c : Dev nD)

omit [FloatOps F] in
theorem slots_cut : (ownsE (F := F) c xblk : sProp 𝕄) ⊢ iprop(ownsE c (slotM 0) ∗ bigSep Finset.univ fun r : Fin 7 => ownsE c (slotM (nxt r))) :=
  (ownsE_cut c xblk til_slot fun _ => squeezes_S1x512x512_S512x512).trans (Entails.of_eq (fin8_tail fun k => ownsE c (slotM k)))
theorem slots_join : iprop(ownsE c (slotM 0) ∗ bigSep Finset.univ fun r : Fin 7 => ownsE c (slotM (nxt r))) ⊢ (ownsE (F := F) c xblk : sProp 𝕄) :=
  (Entails.of_eq (fin8_tail fun k => ownsE c (slotM k)).symm).trans (ownsE_join c xblk til_slot fun _ => squeezes_S1x512x512_S512x512)

omit [FloatOps F] in
theorem aslots_cut : (ownsE (F := F) c abuf : sProp 𝕄) ⊢ iprop(ownsE c (aslotM 0) ∗ bigSep Finset.univ fun r : Fin 7 => ownsE c (aslotM (nxt r))) :=
  (ownsE_cut c abuf til_aslot fun _ => squeezes_S1x8x128_S8x128).trans (Entails.of_eq (fin8_tail fun k => ownsE c (aslotM k)))
theorem aslots_join : iprop(ownsE c (aslotM 0) ∗ bigSep Finset.univ fun r : Fin 7 => ownsE c (aslotM (nxt r))) ⊢ (ownsE (F := F) c abuf : sProp 𝕄) :=
  (Entails.of_eq (fin8_tail fun k => ownsE c (aslotM k)).symm).trans (ownsE_join c abuf til_aslot fun _ => squeezes_S1x8x128_S8x128)

omit [FloatOps F] in
theorem wslots_cut : (ownsE (F := F) c wbuf : sProp 𝕄) ⊢ iprop(ownsE c (wSlot 0) ∗ ownsE c (wSlot 1)) :=
  (ownsE_cut c wbuf til_wslot fun _ => squeezes_S1x512x8192_S512x8192).trans (Entails.of_eq (bigSep_fin_two fun s => ownsE c (wSlot s)))
theorem wslots_join : iprop(ownsE c (wSlot 0) ∗ ownsE c (wSlot 1)) ⊢ (ownsE (F := F) c wbuf : sProp 𝕄) :=
  (Entails.of_eq (bigSep_fin_two fun s => ownsE c (wSlot s)).symm).trans (ownsE_join c wbuf til_wslot fun _ => squeezes_S1x512x8192_S512x8192)

omit [FloatOps F] in
theorem stgs_cut : (ownsE (F := F) c stg : sProp 𝕄) ⊢ iprop(ownsE c (stgSlot 0) ∗ ownsE c (stgSlot 1)) :=
  (ownsE_cut c stg til_stg fun _ => squeezes_S1x512x512_S512x512).trans (Entails.of_eq (bigSep_fin_two fun s => ownsE c (stgSlot s)))
theorem stgs_join : iprop(ownsE c (stgSlot 0) ∗ ownsE c (stgSlot 1)) ⊢ (ownsE (F := F) c stg : sProp 𝕄) :=
  (Entails.of_eq (bigSep_fin_two fun s => ownsE c (stgSlot s)).symm).trans (ownsE_join c stg til_stg fun _ => squeezes_S1x512x512_S512x512)

variable (m : (ℓ : Loc nD τ sig) → Buf (Elt F) ℓ)

omit [FloatOps F] in
theorem x_cut : (owns (c : Thread nD τ) xA fullShare (xIn m c) : sProp 𝕄) ⊢ bigSep Finset.univ fun j => owns (c : Thread nD τ) (xRows j) fullShare (xRow m c j) :=
  owns_pieces c xA til_rows fullShare (xIn m c)
theorem x_join : (bigSep Finset.univ fun j => owns (c : Thread nD τ) (xRows j) fullShare (xRow m c j)) ⊢ (owns (c : Thread nD τ) xA fullShare (xIn m c) : sProp 𝕄) :=
  owns_of_rects (c : Thread nD τ) xA fullShare rowsR til_rows.unit til_rows.disj til_rows.cover (xIn m c)

theorem wSrc_all : (bigSep Finset.univ fun k => wSrc m c k : sProp 𝕄) = bigSep Finset.univ fun j : Fin 8 => owns (c : Thread nD τ) (wM j) fullShare (wRow m c j) :=
  (bigSep_univ_equiv (farEquiv c) fun j : Dev nD => (owns (c : Thread nD τ) (wM j) fullShare (wRow m c j) : sProp 𝕄)).symm
theorem w_cut : (owns (c : Thread nD τ) wA fullShare (wIn m c) : sProp 𝕄) ⊢ bigSep Finset.univ fun k => wSrc m c k := by
  rw [wSrc_all]; exact owns_pieces c wA til_wblk fullShare (wIn m c)
theorem w_join : (bigSep Finset.univ fun k => wSrc m c k) ⊢ (owns (c : Thread nD τ) wA fullShare (wIn m c) : sProp 𝕄) := by
  rw [wSrc_all]; exact owns_of_rects (c : Thread nD τ) wA fullShare wblkR til_wblk.unit til_wblk.disj til_wblk.cover (wIn m c)

/-! ## All of a device's pieces -/

/-- The counters of its local transfers and of its sends, -/
def locals : sProp 𝕄 :=
  iprop((bigSep Finset.univ fun r => semVal ((c : Thread nD τ), .dma (bsendS r)) 0) ∗ (bigSep Finset.univ fun r => semVal ((c : Thread nD τ), .dma (asendS r)) 0)
    ∗ (semVal ((c : Thread nD τ), .dma (wS 0)) 0 ∗ semVal ((c : Thread nD τ), .dma (wS 1)) 0)
    ∗ (semVal ((c : Thread nD τ), .dma (stgS 0)) 0 ∗ semVal ((c : Thread nD τ), .dma (stgS 1)) 0))
/-- its six working buffers, -/
def bufs : sProp 𝕄 := iprop(ownsE c xbf ∗ ownsE c xblk ∗ ownsE c wbuf ∗ ownsE c stg ∗ ownsE c asrc ∗ ownsE c abuf)
/-- its two arguments. -/
def args : sProp 𝕄 := iprop(owns (c : Thread nD τ) xA fullShare (xIn m c) ∗ owns (c : Thread nD τ) wA fullShare (wIn m c))
/-- The two slots no other device fills. -/
def spare : sProp 𝕄 := iprop(ownsE c (slotM 0) ∗ ownsE c (aslotM 0))

theorem held_intro (t : sProp 𝕄) :
    iprop(locals c ∗ args c m ∗ bufs c ∗ t) ⊢ iprop(held m c (fun j => ownsE c (xbfM j)) t ∗ spare c) := by
  unfold locals args bufs held spare wIdle stgIdle
  iintro ⟨⟨HsB, HsA, ⟨Hw0, Hw1⟩, Hg0, Hg1⟩, ⟨Hx, Hw⟩, ⟨Hb, Hs, Hwb, Hst, Ha, Hab⟩, Ht⟩
  ihave Hx := (x_cut c m) $$ Hx
  ihave Hw := (w_cut c m) $$ Hw
  ihave Hb := (ownsE_pieces c xbf til_rows) $$ Hb
  ihave Hs := (slots_cut c) $$ Hs
  icases Hs with ⟨Hs0, Hs⟩
  ihave Hab := (aslots_cut c) $$ Hab
  icases Hab with ⟨Ha0, Hab⟩
  ihave Hwb := (wslots_cut c) $$ Hwb
  icases Hwb with ⟨Hwb0, Hwb1⟩
  ihave Hst := (stgs_cut c) $$ Hst
  icases Hst with ⟨Hst0, Hst1⟩
  isplitr [Hs0 Ha0]
  · isplitl [HsB]; · iexact HsB
    isplitl [HsA]; · iexact HsA
    isplitl [Hw0 Hw1 Hwb0 Hwb1]
    · isplitl [Hw0 Hwb0]
      · isplitl [Hwb0]; · iexact Hwb0
        iexact Hw0
      isplitl [Hwb1]; · iexact Hwb1
      iexact Hw1
    isplitl [Hg0 Hg1 Hst0 Hst1]
    · isplitl [Hg0 Hst0]
      · isplitl [Hst0]; · iexact Hst0
        iexact Hg0
      isplitl [Hst1]; · iexact Hst1
      iexact Hg1
    isplitl [Hx]; · iexact Hx
    isplitl [Hw]; · iexact Hw
    isplitl [Hb]; · iexact Hb
    isplitl [Hs]; · iexact Hs
    isplitl [Hab]; · iexact Hab
    isplitl [Ha]; · iexact Ha
    iexact Ht
  isplitl [Hs0]; · iexact Hs0
  iexact Ha0

theorem xbf_join : (bigSep Finset.univ fun j => owns (c : Thread nD τ) (xbfM j) fullShare (xbfRow m c j)) ⊢ (ownsE c xbf : sProp 𝕄) :=
  (owns_glue c xbf til_rows fullShare (xbfRow m c)).trans (ownsE_intro c _ _)

theorem held_elim (t : sProp 𝕄) :
    iprop(held m c (fun j => owns (c : Thread nD τ) (xbfM j) fullShare (xbfRow m c j)) t ∗ spare c) ⊢ iprop(locals c ∗ args c m ∗ bufs c ∗ t) := by
  unfold locals args bufs held spare wIdle stgIdle
  iintro ⟨⟨HsB, HsA, ⟨⟨Hwb0, Hw0⟩, Hwb1, Hw1⟩, ⟨⟨Hst0, Hg0⟩, Hst1, Hg1⟩, Hx, Hw, Hb, Hs, Hab, Ha, Ht⟩, Hs0, Ha0⟩
  isplitl [HsB HsA Hw0 Hw1 Hg0 Hg1]
  · isplitl [HsB]; · iexact HsB
    isplitl [HsA]; · iexact HsA
    isplitl [Hw0 Hw1]
    · isplitl [Hw0]; · iexact Hw0
      iexact Hw1
    isplitl [Hg0]; · iexact Hg0
    iexact Hg1
  isplitl [Hx Hw]
  · isplitl [Hx]
    · iapply (x_join c m); iexact Hx
    iapply (w_join c m); iexact Hw
  isplitr [Ht]
  · isplitl [Hb]; · iapply (xbf_join c m); iexact Hb
    isplitl [Hs Hs0]
    · iapply (slots_join c)
      isplitl [Hs0]; · iexact Hs0
      iexact Hs
    isplitl [Hwb0 Hwb1]
    · iapply (wslots_join c)
      isplitl [Hwb0]; · iexact Hwb0
      iexact Hwb1
    isplitl [Hst0 Hst1]
    · iapply (stgs_join c)
      isplitl [Hst0]; · iexact Hst0
      iexact Hst1
    isplitl [Ha]; · iexact Ha
    iapply (aslots_join c)
    isplitl [Ha0]; · iexact Ha0
    iexact Hab
  iexact Ht

end Bufs

/-! ## The cells closed -/

section Close

variable (m : (ℓ : Loc nD τ sig) → Buf (Elt F) ℓ) (K : Dev nD × Kind' → ℕ) (c : Dev nD)

/-- The counters of a device's cells, all zero. -/
def counters : sProp 𝕄 :=
  iprop(semVal (cell c kBar) 0 ∗ (bigSep Finset.univ fun i => semVal (cell c (kRow i)) 0) ∗ bigSep Finset.univ fun i => semVal (cell c (kMax i)) 0)

theorem close_cell (k : Kind') : iprop(records m K ∗ atPos ER (cell c k) 1 ∅ 0) ⊢ (|={Set.univ}=> semVal (cell c k) 0 : sProp 𝕄) :=
  (sep_mono_left (records_inv m K c k)).trans
    (Rounds.cell_close ER (rd m) (Set.mem_univ _) (fun h => h) (R := 1) (rd_later m _))

theorem close_family (k : Fin 7 → Kind') :
    iprop(records m K ∗ bigSep Finset.univ fun i => atPos ER (cell c (k i)) 1 ∅ 0) ⊢ (|={Set.univ}=> bigSep Finset.univ fun i => semVal (cell c (k i)) 0 : sProp 𝕄) := by
  refine (sep_mono_left (BI.bigSep_of_persistent (Finset.univ : Finset (Fin 7)) (records m K))).trans ?_
  rw [← bigSep_sep']
  exact (bigSep_mono fun i _ => close_cell m K c (k i)).trans (bigSep_fupd _ _)

theorem close_all : iprop(records m K ∗ posAt c 1) ⊢ (|={Set.univ}=> counters c : sProp 𝕄) := by
  unfold posAt counters
  iintro ⟨#HR, HB, Hr, Hm⟩
  imod (close_cell m K c kBar) $$ [HB] with HB
  · isplitr; · iexact HR
    iexact HB
  imod (close_family m K c kRow) $$ [Hr] with Hr
  · isplitr; · iexact HR
    iexact Hr
  imod (close_family m K c kMax) $$ [Hm] with Hm
  · isplitr; · iexact HR
    iexact Hm
  imodintro
  isplitl [HB]; · iexact HB
  isplitl [Hr]; · iexact Hr
  iexact Hm

end Close

end Cert.KernelIdeal.Amax

end
-- ==== Proof.Launch.lean ====
/- The launch: the cells and their duties dealt among the devices, the credit each is launched with, and the run of the whole program. -/
module

public import proofs.«01_k».proof.Proof.Pieces
public import proofs.«01_k».proof.Proof.Gen.KernelIdeal.Frame
public import Idealize.ShloMosaic.Lib.Pipeline.CollectiveSegs
public import Idealize.ShloMosaic.Lib.Pipeline.ValueKit.Geometry
public import Idealize.ShloMosaic.Lib.Quiescent

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal.Gen

variable {F : FTy → Type} [FloatOps F]

local notation "𝕄" => MT nD τ sig Unit (Elt F) ℕ UU ℕ

/-! ## The kernel's own semaphores -/

/-- The semaphores of the sends; of the local transfers; of the slots. -/
abbrev Own : Type := (Fin 7 ⊕ Fin 7) ⊕ ((Fin 2 ⊕ Fin 2) ⊕ (Fin 8 ⊕ Fin 8))
def osem : Own → SemLoc sig
  | .inl (.inl r) => .dma (bsendS r)
  | .inl (.inr r) => .dma (asendS r)
  | .inr (.inl (.inl s)) => .dma (wS s)
  | .inr (.inl (.inr s)) => .dma (stgS s)
  | .inr (.inr (.inl k)) => .dma (brecvS k)
  | .inr (.inr (.inr k)) => .dma (arecvS k)

theorem ownSemFacts : Pipeline.OwnSemFacts cfg0.spec osem := by decide

section Sems
variable (c : Dev nD)

/-- The two counters nothing uses. -/
def idle : sProp 𝕄 := iprop(semVal ((c : Thread nD τ), .dma (brecvS 0)) 0 ∗ semVal ((c : Thread nD τ), .dma (arecvS 0)) 0)

abbrev ownZero : sProp 𝕄 := Pipeline.ownSems0 (Ix := Unit) (Name := ℕ) (U := UU) (Lvl := ℕ) (Val := Elt F) (τ := τ) osem c

omit [FloatOps F] in
theorem unscopedSems0_eq : (unscopedSems0 c : sProp 𝕄) = semVal (cell c kBar) 0 := by
  unfold unscopedSems0; rw [bigSep_eq_bigSepL_of_eq [SemLoc.reg barS] (by decide) (by decide)]; rfl

omit [FloatOps F] in
theorem ownZero_eq : (ownZero c : sProp 𝕄)
    = iprop(((bigSep Finset.univ fun r => semVal ((c : Thread nD τ), .dma (bsendS r)) 0) ∗ (bigSep Finset.univ fun r => semVal ((c : Thread nD τ), .dma (asendS r)) 0))
        ∗ ((semVal ((c : Thread nD τ), .dma (wS 0)) 0 ∗ semVal ((c : Thread nD τ), .dma (wS 1)) 0)
            ∗ (semVal ((c : Thread nD τ), .dma (stgS 0)) 0 ∗ semVal ((c : Thread nD τ), .dma (stgS 1)) 0))
        ∗ ((semVal ((c : Thread nD τ), .dma (brecvS 0)) 0 ∗ bigSep Finset.univ fun i : Fin 7 => semVal (cell c (kRow i)) 0)
            ∗ (semVal ((c : Thread nD τ), .dma (arecvS 0)) 0 ∗ bigSep Finset.univ fun i : Fin 7 => semVal (cell c (kMax i)) 0))) := by
  unfold ownZero Pipeline.ownSems0
  rw [bigSep_univ_sum, bigSep_univ_sum, bigSep_univ_sum, bigSep_univ_sum, bigSep_univ_sum]
  rw [bigSep_fin_two (fun s : Fin 2 => semVal ((c : Thread nD τ), osem (.inr (.inl (.inl s)))) 0), bigSep_fin_two (fun s : Fin 2 => semVal ((c : Thread nD τ), osem (.inr (.inl (.inr s)))) 0),
    fin8_tail (fun k : Fin 8 => semVal ((c : Thread nD τ), osem (.inr (.inr (.inl k)))) 0), fin8_tail (fun k : Fin 8 => semVal ((c : Thread nD τ), osem (.inr (.inr (.inr k)))) 0)]
  rfl

omit [FloatOps F] in
theorem sems_split : iprop(ownZero c ∗ unscopedSems0 c) ⊢ (iprop(counters c ∗ locals c ∗ idle c) : sProp 𝕄) := by
  rw [ownZero_eq, unscopedSems0_eq]
  unfold counters locals idle
  iintro ⟨⟨⟨H1, H2⟩, ⟨H3, H4⟩, ⟨H5, H6⟩, H7, H8⟩, HB⟩
  isplitl [HB H6 H8]
  · isplitl [HB]; · iexact HB
    isplitl [H6]; · iexact H6
    iexact H8
  isplitl [H1 H2 H3 H4]
  · isplitl [H1]; · iexact H1
    isplitl [H2]; · iexact H2
    isplitl [H3]; · iexact H3
    iexact H4
  isplitl [H5]; · iexact H5
  iexact H7
omit [FloatOps F] in
theorem sems_join : (iprop(counters c ∗ locals c ∗ idle c) : sProp 𝕄) ⊢ iprop(ownZero c ∗ unscopedSems0 c) := by
  rw [ownZero_eq, unscopedSems0_eq]
  unfold counters locals idle
  iintro ⟨⟨HB, H6, H8⟩, ⟨H1, H2, H3, H4⟩, H5, H7⟩
  isplitr [HB]
  · isplitl [H1 H2]
    · isplitl [H1]; · iexact H1
      iexact H2
    isplitl [H3 H4]
    · isplitl [H3]; · iexact H3
      iexact H4
    isplitl [H5 H6]
    · isplitl [H5]; · iexact H5
      iexact H6
    isplitl [H7]; · iexact H7
    iexact H8
  iexact HB

omit [FloatOps F] in
/-- A family over a device's cells, kind by kind. -/
theorem by_kind (Φ : Kind' → sProp 𝕄) :
    bigSep Finset.univ Φ = iprop(Φ kBar ∗ (bigSep Finset.univ fun i => Φ (kRow i)) ∗ bigSep Finset.univ fun i => Φ (kMax i)) := by
  rw [bigSep_univ_sum, bigSep_univ_sum, bigSep_univ_of_subsingleton ()]
  rfl

end Sems

/-! ## The duties dealt -/

section Deal

def ringCells : Finset (GSem nD τ sig) := Finset.univ.map ⟨fun ck : Dev nD × Kind' => cell ck.1 ck.2, cell_injective⟩

/-- A device's own cells' duties. -/
abbrev Duty' : Type := Fin 7 ⊕ (Fin 7 ⊕ Fin 7)
def tokOf (cj : Dev nD × Duty') : GSem nD τ sig × ℕ × Fin 7 := match cj.2 with
  | .inl r => (cell cj.1 kBar, 0, r)
  | .inr (.inl i) => (cell cj.1 (kRow i), 0, 0)
  | .inr (.inr i) => (cell cj.1 (kMax i), 0, 0)
theorem tokOf_injective : Function.Injective tokOf := by
  rintro ⟨c, j⟩ ⟨c', j'⟩ h
  have hk : ∀ c j, kindOf (tokOf (c, j)).1.2 = match j with | .inl _ => some kBar | .inr k => some (.inr k) := by
    rintro c (r | i | i)
    · exact kindOf_semOf kBar
    · exact kindOf_semOf (kRow i)
    · exact kindOf_semOf (kMax i)
  have h1 : c = c' := by
    have := congrArg (fun x : GSem nD τ sig × ℕ × Fin 7 => x.1.1.1) h
    rcases j with r | i | i <;> rcases j' with r' | i' | i' <;> exact this
  have h2 := (hk c j).symm.trans ((congrArg (fun x : GSem nD τ sig × ℕ × Fin 7 => kindOf x.1.2) h).trans (hk c' j'))
  have h3 := congrArg (fun x : GSem nD τ sig × ℕ × Fin 7 => x.2.2) h
  subst h1
  rcases j with r | k <;> rcases j' with r' | k'
  · rw [show r = r' from h3]
  · exact absurd (Option.some.inj h2) (by simp)
  · exact absurd (Option.some.inj h2) (by simp)
  · rw [show k = k' from Sum.inr.inj (Option.some.inj h2)]
def ringToks : Finset (GSem nD τ sig × ℕ × Fin 7) := Finset.univ.map ⟨tokOf, tokOf_injective⟩

/-- The duties of device `c`'s own cells. -/
def minted (c : Dev nD) : sProp 𝕄 :=
  iprop((bigSep Finset.univ fun r => dutyTok ER (cell c kBar) 0 r) ∗ (bigSep Finset.univ fun i => dutyTok ER (cell c (kRow i)) 0 0)
    ∗ bigSep Finset.univ fun i => dutyTok ER (cell c (kMax i)) 0 0)

/-- The devices, and the places round the ring, by the device reached. -/
def around : Dev nD × Fin 7 ≃ Dev nD × Fin 7 where
  toFun p := (far p.1 (nxt p.2), p.2)
  invFun p := (far p.1 (nxt (Fin.rev p.2)), p.2)
  left_inv p := Prod.ext (far_back p.1 p.2) rfl
  right_inv p := Prod.ext (by have := far_back p.1 (Fin.rev p.2); rwa [Fin.rev_rev] at this) rfl

omit [FloatOps F] in
theorem deal (Φ : Dev nD → Fin 7 → sProp 𝕄) :
    (bigSep Finset.univ fun c => bigSep Finset.univ fun r => Φ c r) = bigSep Finset.univ fun c => bigSep Finset.univ fun r => Φ (far c (nxt r)) r := by
  rw [← bigSep_univ_prod fun p : Dev nD × Fin 7 => Φ p.1 p.2, bigSep_univ_equiv around, bigSep_univ_prod]
  rfl

omit [FloatOps F] in
theorem deal_all : (bigSep Finset.univ fun c : Dev nD => (minted c : sProp 𝕄)) = bigSep Finset.univ fun c => toks c := by
  have hr (k : Fin 7 → Kind') : (bigSep Finset.univ fun c : Dev nD => bigSep Finset.univ fun i => (dutyTok ER (cell c (k i)) 0 0 : sProp 𝕄))
      = bigSep Finset.univ fun c : Dev nD => bigSep Finset.univ fun r => (dutyTok ER (cell (far c (nxt r)) (k (Fin.rev r))) 0 0 : sProp 𝕄) :=
    (bigSep_congr fun c _ => fin7_rev _).trans (deal fun c r => dutyTok ER (cell c (k (Fin.rev r))) 0 0)
  unfold minted toks
  rw [bigSep_sep', bigSep_sep', bigSep_sep', bigSep_sep', deal fun c r => dutyTok ER (cell c kBar) 0 r, hr kRow, hr kMax]

end Deal

/-! ## The invariants allocated -/

section Alloc

variable (m : (ℓ : Loc nD τ sig) → Buf (Elt F) ℓ)

def u₀ : UU :=
  (initOf (Pipeline.cells cfgs cellOf_inj) (Pipeline.launchToks cfgs cellOf_inj), (initOf ringCells ringToks, 1))

/-- What the launch deals device `c`. -/
def G (c : Dev nD) : sProp 𝕄 :=
  iprop((bigSep Finset.univ fun k : Kind' => roundState ER (rd m) (cell c k) 0) ∗ (bigSep Finset.univ fun k : Kind' => atPos ER (cell c k) 0 ∅ 0)
    ∗ (bigSep Finset.univ fun k : Kind' => reached ER (cell c k) 0) ∗ minted c)

/-- The invariants and the marks. -/
def marks (K : Dev nD × Kind' → ℕ) : sProp 𝕄 :=
  iprop((bigSep Finset.univ fun ck : Dev nD × Kind' => cellInv ER (rd m) (K ck) (cell ck.1 ck.2))
    ∗ (bigSep Finset.univ fun ck : Dev nD × Kind' => reached ER (cell ck.1 ck.2) 0))
instance marks_persistent (K : Dev nD × Kind' → ℕ) : BI.Persistent (marks m K) := by unfold marks; infer_instance

/-- What device `c` alone has. -/
def alone (c : Dev nD) : sProp 𝕄 := iprop(posAt c 0 ∗ toks c ∗ locals c ∗ idle c)
/-- What the allocation makes of it. -/
def G' (c : Dev nD) : sProp 𝕄 := iprop(∃ K, marks m K ∗ alone c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kind' => Φ (cell c k) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]
    exact bigSep_congr fun c _ => by unfold minted; rw [bigSep_univ_sum, bigSep_univ_sum]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', bigSep_sep']
  isplitl [Hst']; · iexact Hst'
  isplitl [Hat']; · iexact Hat'
  isplitl [Hr']; · iexact Hr'
  iexact Htok'

theorem core_alloc (c : Dev nD) :
    iprop(ownZero c ∗ unscopedSems0 c ∗ G m c)
      ⊢ |={Set.univ}=> iprop((bigSep Finset.univ fun k => iprop(∃ κ : ℕ, cellInv ER (rd m) κ (cell c k)))
          ∗ (bigSep Finset.univ fun k : Kind' => reached ER (cell c k) 0) ∗ (posAt c 0 ∗ locals c ∗ idle c) ∗ minted c) := by
  have hinv : iprop((bigSep Finset.univ fun k : Kind' => semVal (cell c k) 0) ∗ bigSep Finset.univ fun k : Kind' => roundState ER (rd m) (cell c k) 0)
      ⊢ (|={Set.univ}=> bigSep Finset.univ fun k => iprop(∃ κ : ℕ, cellInv ER (rd m) κ (cell c k)) : sProp 𝕄) := by
    rw [← bigSep_sep']
    exact (bigSep_mono fun k _ => (Rounds.body_intro ER (rd m) (cell c k)).trans inv_alloc).trans (bigSep_fupd _ _)
  unfold G
  iintro ⟨Hos, Hus, Hst, Hat, Hr, Htok⟩
  ihave Hv := (sems_split (F := F) c) $$ [Hos Hus]
  · isplitl [Hos]; · iexact Hos
    iexact Hus
  icases Hv with ⟨Hv, Hl⟩
  imod hinv $$ [Hv Hst] with Hinv
  · isplitl [Hv]
    · rw [by_kind]; unfold counters; iexact Hv
    iexact Hst
  imodintro
  isplitl [Hinv]; · iexact Hinv
  isplitl [Hr]; · iexact Hr
  isplitl [Hat Hl]
  · isplitl [Hat]
    · unfold posAt; rw [← by_kind fun k => atPos ER (cell c k) 0 ∅ 0]; iexact Hat
    iexact Hl
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (cell c k)))
          ∗ (bigSep Finset.univ fun k : Kind' => reached ER (cell c k) 0) ∗ (posAt c 0 ∗ locals c ∗ idle c) ∗ minted c) : sProp 𝕄)
      ⊢ bigSep Finset.univ (G' m) := by
  have hG (K : Dev nD × Kind' → ℕ) (c : Dev nD) : iprop(marks m K ∗ (posAt c 0 ∗ locals c ∗ idle c) ∗ toks c) ⊢ G' m c := by
    unfold G' alone
    iintro ⟨HK, ⟨Hp, Hl⟩, Ht⟩
    iexists K
    isplitl [HK]; · iexact HK
    isplitl [Hp]; · iexact Hp
    isplitl [Ht]; · iexact Ht
    iexact Hl
  rw [bigSep_sep', bigSep_sep', bigSep_sep', ← bigSep_univ_prod (fun ck : Dev nD × Kind' => iprop(∃ κ : ℕ, cellInv ER (rd m) κ (cell ck.1 ck.2))),
    ← bigSep_univ_prod (fun ck : Dev nD × Kind' => (reached ER (cell ck.1 ck.2) 0 : sProp 𝕄)), deal_all]
  iintro ⟨HI, #HR, Hat, Htok⟩
  ihave HK := (BI.bigSep_exists_pi Finset.univ (fun (ck : Dev nD × Kind') (κ : ℕ) => (cellInv ER (rd m) κ (cell ck.1 ck.2) : sProp 𝕄))) $$ HI
  icases HK with ⟨%K, #HI⟩
  iapply (bigSep_with_persistent (R := marks m K) fun c _ => hG K c)
  isplitr
  · unfold marks; isplitl; · iexact HI
    iexact HR
  iapply (Entails.of_eq (bigSep_sep' Finset.univ (fun c : Dev nD => (iprop(posAt c 0 ∗ locals c ∗ idle c) : sProp 𝕄)) toks).symm)
  isplitl [Hat]; · iexact Hat
  iexact Htok

theorem glob : (bigSep Finset.univ fun c => iprop(ownZero c ∗ unscopedSems0 c ∗ G m c) : sProp 𝕄) ⊢ |={Set.univ}=> bigSep Finset.univ (G' m) :=
  ((bigSep_mono fun c _ => core_alloc m c).trans (bigSep_fupd _ _)).trans (BI.fupd_mono (regroup m))

end Alloc

/-! ## The launch credit -/

section Credit

/-- How many of the pairs of a device and a place round the ring send to a given cell. -/
theorem count_bar : ∀ c : Dev nD, (Finset.univ.filter fun p : Dev nD × Fin 7 => far p.1 (nxt p.2) = c).card = 7 := by decide
theorem count_slot : ∀ (c : Dev nD) (i : Fin 7), (Finset.univ.filter fun p : Dev nD × Fin 7 => far p.1 (nxt p.2) = c ∧ Fin.rev p.2 = i).card = 1 := by decide

theorem cell_iff {a b : Dev nD} {k l : Kind'} : cell a k = cell b l ↔ a = b ∧ k = l :=
  ⟨fun h => Prod.mk.inj (@cell_injective (a, k) (b, l) h), fun h => by rw [h.1, h.2]⟩

/-- All that is owed at a cell by a family of debts, one of `N` for each pair. -/
theorem owed_sum (c : Dev nD) (k : Kind') (κ : Fin 7 → Kind') (N : ℕ) :
    (∑ d : Dev nD, (∑ r : Fin 7, (tallyAt (cell (far d (nxt r)) (κ r)) () N : CellTallies nD τ sig Unit)) (cell c k) ())
      = (Finset.univ.filter fun p : Dev nD × Fin 7 => far p.1 (nxt p.2) = c ∧ κ p.2 = k).card * N := by
  have h : ∀ d : Dev nD, (∑ r : Fin 7, (tallyAt (cell (far d (nxt r)) (κ r)) () N : CellTallies nD τ sig Unit)) (cell c k) ()
      = ∑ r : Fin 7, if far d (nxt r) = c ∧ κ r = k then N else 0 := fun d => by
    rw [Finset.sum_apply, Finsupp.finsetSum_apply]
    refine Finset.sum_congr rfl fun r _ => ?_
    rw [tallyAt_apply]
    refine if_congr ?_ rfl rfl
    rw [cell_iff]
    exact ⟨fun h => ⟨h.1.1.symm, h.1.2.symm⟩, fun h => ⟨⟨h.1.symm, h.2.symm⟩, rfl⟩⟩
  rw [Finset.sum_congr rfl fun d _ => h d, ← Fintype.sum_prod_type' (fun (d : Dev nD) (r : Fin 7) => if far d (nxt r) = c ∧ κ r = k then N else 0),
    ← Finset.sum_filter, Finset.sum_const, smul_eq_mul]

theorem owed_at (c : Dev nD) (k : Kind') : (∑ d : Dev nD, O₀ d (cell c k) ()) = expectOf k := by
  have hrev (d : Dev nD) : (∑ r : Fin 7, rowO d (Fin.rev r)) = ∑ r : Fin 7, rowO d r := Equiv.sum_comp Fin.revPerm fun r => rowO d r
  have h : ∀ d : Dev nD, O₀ d (cell c k) () = ((∑ r, maxO d r) (cell c k) () + (∑ r, rowO d r) (cell c k) ()) + (∑ r, barO d r) (cell c k) () := fun d => by
    unfold O₀ owedMax owedRows owedBar
    rw [left_zero, left_zero, left_zero, hrev]
    rfl
  rw [Finset.sum_congr rfl fun d _ => h d, Finset.sum_add_distrib, Finset.sum_add_distrib, owed_sum c k (fun r => kMax (Fin.rev r)) NA,
    owed_sum c k (fun r => kRow (Fin.rev r)) NB, owed_sum c k (fun _ => kBar) 1]
  rcases k with u | i | i
  · simp only [reduceCtorEq, and_false, and_true, Finset.filter_false, Finset.card_empty, Nat.zero_mul, Nat.zero_add, Nat.mul_one, count_bar]
    rfl
  · simp only [Sum.inr.injEq, Sum.inl.injEq, reduceCtorEq, and_false, Finset.filter_false, Finset.card_empty, Nat.zero_mul, Nat.zero_add, Nat.add_zero, Nat.one_mul, count_slot]
    rfl
  · simp only [Sum.inr.injEq, reduceCtorEq, and_false, Finset.filter_false, Finset.card_empty, Nat.zero_mul, Nat.zero_add, Nat.add_zero, Nat.one_mul, count_slot]
    rfl

theorem launch_at (c : Dev nD) (k : Kind') :
    tallyOn (cell c k) (launchCredit (Pipeline.owing O₀) 0 (cell c k)) = (tallyAt (cell c k) () (expectOf k) : CellTallies nD τ sig Unit) := by
  unfold tallyAt; refine congrArg _ (Finsupp.ext fun u => ?_); cases u
  rw [Pipeline.launchCredit_owing, Finsupp.single_eq_same, owed_at]

omit [FloatOps F] in
theorem creds_intro (c : Dev nD) : (Pipeline.launchCred O₀ c : sProp 𝕄) ⊢ creds c := by
  unfold Pipeline.launchCred
  refine (bigSep_subset (Finset.subset_univ (Finset.univ.map ⟨semOf, semOf_injective⟩))).trans ?_
  rw [bigSep_map]
  refine (Entails.of_eq (bigSep_congr fun k _ => congrArg cred (launch_at c k))).trans ?_
  rw [by_kind]
  exact Entails.of_eq rfl

end Credit

end Cert.KernelIdeal.Amax

end
-- ==== Proof.Run.lean ====
/- The run of the whole program: every device's arguments unchanged, its result the eight tiles put together, every counter at zero. -/
module

public import proofs.«01_k».proof.Proof.Launch

@[expose] public section

noncomputable section

namespace Cert.KernelIdeal.Amax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The device's result: its eight tiles side by side. -/
def outF (c : Dev nD) : S512x8192.Idx → Elt F .f32 := Rect.glue tileR til_tile.cover (outTile m c)

/-- Before the body, -/
def start (c : Dev nD) : sProp 𝕄 := iprop(G' m c ∗ levAts L lv ∗ creds c ∗ args c m)
def Φ₀ (c : Dev nD) : sProp 𝕄 := iprop(start m c ∗ bufs c)
/-- and after it. -/
def Φ₁ (c : Dev nD) : sProp 𝕄 := iprop((counters c ∗ locals c ∗ idle c) ∗ args c m ∗ bufs c)

theorem core (c : Dev nD) :
    iprop(Φ₀ m c ∗ (∃ W, owes (c : Thread nD τ) (O₀ c) W) ∗ ownsE c oM)
      ⊢ Wp c (body (F := F)) (fun _ => iprop(Φ₁ m c ∗ (∃ W, owes (c : Thread nD τ) 0 W) ∗ owns (c : Thread nD τ) oM fullShare (outF m c))) := by
  refine BIBase.Entails.trans ?_ (wp_fupd _ _ _ _ _)
  unfold Φ₀ start G' alone marks
  iintro ⟨⟨⟨⟨%K, ⟨#HI, #HR⟩, Hp, Ht, Hl, Hi⟩, #Hlev, Hc, Ha⟩, Hb⟩, HO, Ho⟩
  ihave Ho := (ownsE_pieces c oM til_tile) $$ Ho
  ihave Hh := (held_intro c m (bigSep Finset.univ fun n => ownsE c (tileM n))) $$ [Hl Ha Hb Ho]
  · isplitl [Hl]; · iexact Hl
    isplitl [Ha]; · iexact Ha
    isplitl [Hb]; · iexact Hb
    iexact Ho
  icases Hh with ⟨Hh, Hs⟩
  have hb := sound_body m K c
  unfold owing at hb
  iapply (wp_frame_step c hb) $$ [Hp Ht Hc Hh HO]
  · isplitl [HO]
    · unfold records
      isplitr
      · isplitr; · iexact HI
        isplitr; · iexact HR
        iexact Hlev
      iexact HO
    isplitl [Hp]; · iexact Hp
    isplitl [Ht]; · iexact Ht
    isplitl [Hc]; · iexact Hc
    iexact Hh
  iintro %_ ⟨⟨#HK, HO⟩, Hp, Hh⟩
  imod (close_all m K c) $$ [Hp] with Hv
  · isplitr; · iexact HK
    iexact Hp
  imodintro
  ihave Hh := (held_elim c m _) $$ [Hh Hs]
  · isplitl [Hh]; · iexact Hh
    iexact Hs
  icases Hh with ⟨Hl, Ha, Hb, Ho⟩
  isplitr [HO Ho]
  · unfold Φ₁
    isplitl [Hv Hl Hi]
    · isplitl [Hv]; · iexact Hv
      isplitl [Hl]; · iexact Hl
      iexact Hi
    isplitl [Ha]; · iexact Ha
    iexact Hb
  isplitl [HO]; · iexact HO
  unfold tiles
  iapply (owns_glue c oM til_tile fullShare (outTile m c))
  iexact Ho

/-! ## The obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 1)) := bigSep_W0 Φ

/-- What the program calls at its one point is the body. -/
theorem called_eq : defs₀ (F := F) .tc cfg0.body (cfg0.bodyArgs t0_0 (cfg0.slots t0_0)) = body (F := F) := by sl_kernel_rfl

theorem at_point (c : Dev nD) :
    iprop(Φ₀ m c ∗ (dats m ρ 0 c).owesAt () (t0_0 : Fin cfg0.N).castSucc ∗ (∃ d, owns (c : Thread nD τ) oM fullShare ((dats m ρ 0 c).before (0 : Fin 1) t0_0 d)))
      ⊢ Wp c (body (F := F)) (fun _ => iprop(Φ₁ m c ∗ (dats m ρ 0 c).owesAt () (t0_0 : Fin cfg0.N).succ ∗ owns (c : Thread nD τ) oM fullShare (outF m c))) := by
  unfold Dat.owesAt Pipeline.owesWithin
  rw [show (dats m ρ 0 c).owed (t0_0 : Fin cfg0.N).castSucc = O₀ c from rfl, show (dats m ρ 0 c).owed (t0_0 : Fin cfg0.N).succ = 0 from rfl]
  iintro ⟨HΦ, ⟨%W, %hW, HO⟩, ⟨%d, Ho⟩⟩
  iapply (wp_frame_step c (core m c)) $$ [HΦ HO Ho]
  · isplitl [HΦ]; · iexact HΦ
    isplitl [HO]; · iexists W; iexact HO
    iexists _; iexact Ho
  iintro %_ ⟨HΦ, ⟨%W', HO⟩, Ho⟩
  isplitl [HΦ]; · iexact HΦ
  isplitl [HO]
  · iexists W'
    isplitr; · ipureintro; exact fun _ _ => Or.inl trivial
    iexact HO
  iexact Ho

theorem body_obligation (c : Dev nD) : BodyObligation (dats (F := F) m ρ 0 c) (defs₀ (F := F)) 𝒱₀ () Set.univ := fun t => by
  rw [fin_N0 t]
  rw [bigSep_W, bigSep_W, called_eq]
  refine Eq.mp ?_ (at_point m ρ c)
  sl_kernel_rfl

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have ha : (Pipeline.unscopedRestP Pipeline.Prefetch.none cfg0.spec c (fun b => m ((c : Thread nD τ).loc b)) : sProp 𝕄) ⊢ args c m := by
    rw [Pipeline.unscopedRestP_none, unscopedRest0_eq]
    unfold args
    rw [owns_whole, owns_whole]
    exact Entails.of_eq rfl
  iintro ⟨Ha, Hlev, Hcr, -, HG⟩
  ihave Hc := (creds_intro (F := F) c) $$ Hcr
  ihave Ha := ha $$ Ha
  imodintro
  unfold start
  isplitl
  · isplitl [HG]; · iexact HG
    isplitl [Hlev]; · iexact Hlev
    isplitl [Hc]; · iexact Hc
    iexact Ha
  · iempintro

omit [FloatOps F] in
theorem bufs_eq (c : Dev nD) : (Pipeline.scopedRest (Ix := Unit) (Name := ℕ) (U := UU) (Lvl := ℕ) (Val := Elt F) cfg0.spec c : sProp 𝕄) = bufs c := by
  rw [scopedRest0_eq]
  unfold bufs ownsE
  simp only [owns_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hb⟩
  isplitl [Hs]; · iexact Hs
  iexact Hb

theorem phi1_exit (c : Dev nD) :
    (dats m ρ 0 c).Φ (Fin.last cfg0.N) ⊢ iprop((unscopedSems0 c ∗ args c m) ∗ ownZero c ∗ Pipeline.scopedRest cfg0.spec c) := by
  rw [show (dats m ρ 0 c).Φ (Fin.last cfg0.N) = Φ₁ m c from rfl, bufs_eq]
  unfold Φ₁
  iintro ⟨Hv, Ha, Hb⟩
  ihave Hv := (sems_join c) $$ Hv
  icases Hv with ⟨Hz, Hu⟩
  isplitl [Hu Ha]
  · isplitl [Hu]; · iexact Hu
    iexact Ha
  isplitl [Hz]; · iexact Hz
  iexact Hb

theorem above_launch (c : Dev nD) : Above 0 (O₀ c) :=
  ((above_max c 0 (by decide)).add (above_rows c 0 (by decide))).add (above_bar c 0)

theorem waits (c : Dev nD) : (levAts L lv : sProp 𝕄) ⊢ Pipeline.cellsWaits cfgs (dats m ρ) () 0 c :=
  Pipeline.cellsWaits_intro cfgs (dats m ρ) () 0 c fun w s t => mayWait c _ _ (by
    have h : levOf (kindOf (.dma (((cfgs 0).win w).sem s))) = 0 := by fin_cases w <;> fin_cases s <;> decide
    rw [h]
    rcases t with ⟨_ | _, ht⟩
    · exact above_launch c
    · exact Above.zero 0)

/-! ## The run -/

theorem read_args (c : Dev nD) (s' : Phys nD τ sig (Elt F)) :
    iprop((args c m : sProp 𝕄) ∗ SI s') ⊢ iprop(⌜s'.mem.mem ((c : Thread nD τ).loc main_arg0) = xIn m c ∧ s'.mem.mem ((c : Thread nD τ).loc main_arg1) = wIn m c⌝ ∗ SI s') := by
  unfold args
  rw [owns_whole, owns_whole]
  iintro ⟨⟨Hx, Hw⟩, HS⟩
  icombine Hx HS gives %hx
  icombine Hw HS gives %hw
  isplitr
  · ipureintro
    exact ⟨funext fun i => hx i (Finset.mem_univ i), funext fun i => hw i (Finset.mem_univ i)⟩
  iexact HS

def Post (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outF m c)
    ∧ r.2.sem = fun _ => 0

theorem final_out (c : Dev nD) : (dats m ρ 0 c).arrAt (0 : Fin 1) cfg0.N = outF m c :=
  (dats m ρ 0 c).arrAt_eq_of_after_last (0 : Fin 1) t0_0 (by decide +kernel) (outF m c) fun j => rfl

theorem main_call (c : Dev nD) : main (F := F) c = (.op (.customCall (Pipeline.entry 0) ()) fun _ => .ret ⟨⟩) := (main_chain c).trans rfl

set_option maxRecDepth 8000 in
/-- From any memory with zero counters every weakly fair execution of the program ends, as `Post` says. -/
theorem run_main : θ_run defs (onTc (τ := τ) (main (F := F))) (s₀ m ρ) (Post m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := main_call)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args c m)) (Z := fun _ => iprop(emp))
    (hX := start_intro m ρ) (hin := phi0_intro m ρ) (hout := phi1_exit m ρ)
    (QY := fun c s => (s.mem ((c : Thread nD τ).loc main_arg0) = xIn m c ∧ s.mem ((c : Thread nD τ).loc main_arg1) = wIn m c)
      ∧ ∀ sm : SemLoc sig, sm.isScoped .tc = false → s.sem ((c.tc : Thread nD τ), sm) = 0)
    (hY := fun c s' => by
      iintro ⟨⟨Hu, Ha⟩, -, HSI⟩
      ihave H := (read_args m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨ha, hs⟩
      iexact HSI)
    (hQ := fun _ h hs => ⟨fun c => ⟨(h c).2.2.1.1, (h c).2.2.1.2, ((h c).1 (0 : Fin 1)).trans (final_out m ρ c)⟩, sem_eq_zero hs fun c => (h c).2.2.2⟩)

end Cert.KernelIdeal.Amax

end
-- ==== Proof.Values.lean ====
/- What the kernel's steps compute over the extended reals: one block product at an index, the running sum as the sum of the block
   products, the maxima by what bounds them, and one quantised number. -/
module

public import proofs.«01_k».proof.Proof.Contents
public import Idealize.ShloMosaic.PureOps.Ideal.Laws
public import Idealize.ShloMosaic.PureOps.Reduce
public import Idealize.ShloMosaic.Lib.MatmulPlain
public import Idealize.ShloMosaic.Lib.ValueIdx
public import Idealize.ShloMosaic.Lib.Pipeline.Value

@[expose] public section

noncomputable section

namespace Cert.KernelIdeal.Amax

open Idealize.ShloMosaic Idealize.ShloMosaic.TcCoe Idealize.ShloMosaic.ValueIdx
open Idealize.SL.Sem
open Cert.KernelIdeal.Gen

/-! ## The constants -/

theorem zero_bits : Ideal.ofBits .f32 0x00000000#32 = 0 := by simp [Ideal.ofBits, Ideal.ieee]
theorem bot_bits : Ideal.ofBits .f32 0xFF800000#32 = ⊥ := by simp [Ideal.ofBits, Ideal.ieee]
theorem top_bits : Ideal.ofBits .f32 0x43E00000#32 = ((448 : ℝ) : EReal) := by
  simp [Ideal.ofBits, Ideal.ieee]; rw [← EReal.coe_mul]; norm_num
theorem low_bits : Ideal.ofBits .f32 0xC3E00000#32 = ((-448 : ℝ) : EReal) := by
  simp [Ideal.ofBits, Ideal.ieee]; rw [← EReal.coe_mul]; norm_num

/-! ## One block product -/

theorem dot_plain : dot_S512x512_S512x1024_S512x1024_1_0_0_1_n_n = DotDims.plain 512 512 1024 := rfl

theorem prod_apply (x : FVec Ideal S512x512 .f32) (w : Vec Ideal S512x1024 .f32) (h : S512x1024.ShapeCasts S1x512x1024) (r : Fin 512) (q : Fin 1024) :
    prod x (shapeCast S1x512x1024 w h) (ix2 r q) = ∑ l : Fin 512, x (ix2 r l) * w (ix2 l q) := by
  unfold prod
  rw [shapeCast_shapeCast, dot_plain, matmul, Ideal.matmul_plain_apply]
  show Ideal.ofBits .f32 0x00000000#32 + _ = _
  rw [zero_bits, zero_add]

theorem round_unsq (X : S512x512.Idx → EReal) : roundX (F := Ideal) (unsq squeezes_S1x512x512_S512x512 X) = X := by
  unfold roundX
  rw [shapeCast_self]
  funext y
  show X _ = X y
  exact congrArg X (Equiv.symm_apply_apply _ _)

theorem recv_unsq (X : S512x512.Idx → EReal) : recvX (F := Ideal) (unsq squeezes_S1x512x512_S512x512 X) = X := by
  funext y
  show X _ = X y
  exact congrArg X (Equiv.symm_apply_apply _ _)

theorem own_eq (X : S512x512.Idx → EReal) : ownX (F := Ideal) X = X := rfl

/-! ## The running sum -/

variable (m : (ℓ : Loc nD τ sig) → Buf (Elt Ideal) ℓ)

/-- Place `r` of block `j`, of blocks of length `B`. -/
abbrev place (B : ℕ) {N : ℕ} (hN : N = 8 * B) (j : Fin 8) (r : Fin B) : Fin N := ⟨B * j.val + r.val, by have := j.isLt; have := r.isLt; subst hN; nlinarith⟩

/-- The part that step `k` adds to the number at row `r` and column `q` of tile `n`. -/
def part (c : Dev nD) (n : Fin 8) (r : Fin 512) (q : Fin 1024) (k : Fin 8) : EReal :=
  ∑ l : Fin 512, xIn m (far c k) (ix2 (place 512 rfl c r) l) * wIn m c (ix2 (place 512 rfl (far c k) l) (place 1024 rfl n q))

theorem emb_rows (j : Fin 8) (r l : Fin 512) : (rowsR j).emb (ix2 r l) = ix2 (place 512 rfl j r) l := by
  funext a; match a with
  | ⟨0, _⟩ => exact Fin.ext (by show 512 * j.val + 1 * r.val = 512 * j.val + r.val; omega)
  | ⟨1, _⟩ => exact Fin.ext (by show 0 + 1 * l.val = l.val; omega)
theorem emb_wblk (j : Fin 8) (r : Fin 512) (l : Fin 8192) : (wblkR j).emb (ix2 r l) = ix2 (place 512 rfl j r) l := by
  funext a; match a with
  | ⟨0, _⟩ => exact Fin.ext (by show 512 * j.val + 1 * r.val = 512 * j.val + r.val; omega)
  | ⟨1, _⟩ => exact Fin.ext (by show 0 + 1 * l.val = l.val; omega)
theorem emb_tile (n : Fin 8) (r : Fin 512) (q : Fin 1024) : (tileR n).emb (ix2 r q) = ix2 r (place 1024 rfl n q) := by
  funext a; match a with
  | ⟨0, _⟩ => exact Fin.ext (by show 0 + 1 * r.val = r.val; omega)
  | ⟨1, _⟩ => exact Fin.ext (by show 1024 * n.val + 1 * q.val = 1024 * n.val + q.val; omega)

/-- One step's block product is that part. -/
theorem prod_part (c : Dev nD) (n : Fin 8) (r : Fin 512) (q : Fin 1024) (k : Fin 8) :
    prod (F := Ideal) (xRow m (far c k) c) (wTile (wRow m c (far c k)) n) (ix2 r q) = part m c n r q k := by
  unfold wTile
  rw [prod_apply]
  refine Finset.sum_congr rfl fun l _ => ?_
  show xIn m (far c k) ((rowsR c).emb (ix2 r l)) * wIn m c ((wblkR (far c k)).emb ((tileR n).emb (ix2 l q))) = _
  rw [emb_rows, emb_tile, emb_wblk]

theorem sentRow_eq (c : Dev nD) (k : Fin 8) : sentRow m c k = xRow m (far c k) c := by
  unfold sentRow xbfRow; exact round_unsq _

theorem acc_eq (c : Dev nD) (n : Fin 8) (r : Fin 512) (q : Fin 1024) :
    ∀ k : ℕ, acc m c k n (ix2 r q) = ∑ j ∈ Finset.range (k + 1), part m c n r q (at8 j)
  | 0 => by
    rw [Finset.sum_range_one]
    show prod (F := Ideal) (ownX (xbfRow m c c)) (wTile (wRow m c (far c 0)) n) (ix2 r q) = part m c n r q (at8 0)
    rw [← prod_part m c n r q (at8 0)]
    have h : xbfRow m c c = xRow m (far c (at8 0)) c := by rw [show at8 0 = 0 from rfl, far_zero]; unfold xbfRow; exact round_unsq _
    rw [h]; rfl
  | k + 1 => by
    rw [Finset.sum_range_succ, ← acc_eq c n r q k, ← prod_part m c n r q (at8 (k + 1))]
    show accum (F := Ideal) (recvX (unsq squeezes_S1x512x512_S512x512 (sentRow m c (at8 (k + 1))))) (wTile (wRow m c (far c (at8 (k + 1)))) n) (acc m c k n) (ix2 r q) = _
    rw [sentRow_eq, recv_unsq]
    unfold accum
    rw [shapeCast_self]; rfl

/-- After the last step: the sum over the eight devices in their own order. -/
theorem acc_last (c : Dev nD) (n : Fin 8) (r : Fin 512) (q : Fin 1024) :
    acc m c 7 n (ix2 r q) = ∑ d : Fin 8, ∑ l : Fin 512, xIn m d (ix2 (place 512 rfl c r) l) * wIn m c (ix2 (place 512 rfl d l) (place 1024 rfl n q)) := by
  rw [acc_eq, Finset.sum_range]
  have hfar : ∀ c : Dev nD, Function.Bijective (far c) := by decide
  refine Eq.trans ?_ ((hfar c).sum_comp fun d => ∑ l : Fin 512, xIn m d (ix2 (place 512 rfl c r) l) * wIn m c (ix2 (place 512 rfl d l) (place 1024 rfl n q)))
  refine Finset.sum_congr rfl fun k _ => ?_
  rw [at8_val]; rfl

/-! ## The maxima, by what bounds them -/

theorem max_le_both (a b c : EReal) : Scalar.maximumf (F := Ideal) (φ := .f32) a b ≤ c ↔ a ≤ c ∧ b ≤ c := max_le_iff

theorem le_of_eq_iff {a a' b : EReal} (h : a = a') : a ≤ b ↔ a' ≤ b := h ▸ Iff.rfl

/-- A block's maximum is at most `b` exactly when each of its numbers is. -/
theorem blockMax_le (w : FVec Ideal S1x512x1024 .f32) (b : EReal) :
    extractAt ![0, 0, 0] (shapeCast S1x1x1 (multiReduction .maximumf [1, 2] S1 w 0xFF800000#32 reduces_S1x512x1024_S1 (.inl rfl) rfl : FVec Ideal S1 .f32)
      shapeCasts_S1_S1x1x1 : FVec Ideal S1x1x1 .f32) inpos_S1x1x1_p0_0_0 ≤ b ↔ ∀ i, w i ≤ b := by
  unfold extractAt shapeCast
  refine Iff.trans (le_of_eq_iff (multiReduction_maximumf_eq_fold w _ _ _ _ _)) ?_
  show Finset.fold max (Ideal.ofBits .f32 0xFF800000#32) w _ ≤ b ↔ _
  rw [Finset.fold_max_le, bot_bits]
  refine ⟨fun h i => h.2 i (Finset.mem_filter.mpr ⟨Finset.mem_univ _, funext fun a => ?_⟩), fun h => ⟨bot_le, fun i _ => h i⟩⟩
  match a with
  | ⟨0, _⟩ => exact Subsingleton.elim (α := Fin 1) _ _

theorem tileMax_le (v : FVec Ideal S512x1024 .f32) (b : EReal) : tileMax v ≤ b ↔ ∀ r q, max (v (ix2 r q)) (-(v (ix2 r q))) ≤ b := by
  unfold tileMax
  rw [blockMax_le]
  constructor
  · intro h r q
    have := h (Fin.cons ⟨0, Nat.one_pos⟩ (ix2 r q))
    rw [shapeCast_addUnit_apply] at this
    exact this
  · intro h i
    rw [shapeCast_addUnit_apply, eq_ix2 (fun a : Fin 2 => i a.succ)]
    exact h _ _

theorem max8_le (t : Fin 8 → EReal) (b : EReal) :
    Scalar.maximumf (F := Ideal) (φ := .f32) (Scalar.maximumf (Scalar.maximumf (Scalar.maximumf (Scalar.maximumf (Scalar.maximumf (Scalar.maximumf (t 0) (t 1)) (t 2)) (t 3)) (t 4)) (t 5)) (t 6)) (t 7) ≤ b
      ↔ ∀ n, t n ≤ b := by
  simp only [max_le_both, and_assoc]
  refine ⟨fun h n => ?_, fun h => ⟨h 0, h 1, h 2, h 3, h 4, h 5, h 6, h 7⟩⟩
  obtain ⟨h0, h1, h2, h3, h4, h5, h6, h7⟩ := h
  fin_cases n <;> assumption

theorem localMax_le (v : Fin 8 → FVec Ideal S512x1024 .f32) (b : EReal) : localMax v ≤ b ↔ ∀ n, tileMax (v n) ≤ b := by
  unfold localMax
  exact max8_le (fun n => tileMax (v n)) b

theorem globalMax_le (a : EReal) (g : Fin 7 → EReal) (b : EReal) : globalMax (F := Ideal) a g ≤ b ↔ a ≤ b ∧ ∀ i, g i ≤ b := by
  unfold globalMax
  refine (max8_le (Fin.cons a g : Fin 8 → EReal) b).trans Fin.forall_fin_succ

theorem gmax_le (c : Dev nD) (b : EReal) :
    gmax m c ≤ b ↔ ∀ (d : Dev nD) (n : Fin 8) (r : Fin 512) (q : Fin 1024), max (acc m d 7 n (ix2 r q)) (-(acc m d 7 n (ix2 r q))) ≤ b := by
  have hl : ∀ d, lmax m d ≤ b ↔ ∀ n r q, max (acc m d 7 n (ix2 r q)) (-(acc m d 7 n (ix2 r q))) ≤ b := fun d => by
    unfold lmax; rw [localMax_le]; exact forall_congr' fun n => tileMax_le _ _
  unfold gmax
  rw [globalMax_le]
  simp only [← hl]
  have hfar : ∀ c d : Dev nD, d = c ∨ ∃ r : Fin 7, d = far c (nxt r) := by decide
  constructor
  · rintro ⟨h0, h⟩ d
    rcases hfar c d with rfl | ⟨r, rfl⟩
    · exact h0
    · exact h r
  · exact fun h => ⟨h c, fun i => h _⟩

/-! ## One quantised number -/

/-- A number times `448 / g`, clipped and scaled back, is the number over `g / 448`, clipped and scaled back, when `g` bounds its magnitude. -/
theorem quant_real (g y : EReal) (h : max y (-y) ≤ g) :
    min ((448 : ℝ) : EReal) (max ((-448 : ℝ) : EReal) (y * Ideal.div ((448 : ℝ) : EReal) g)) * Ideal.div g ((448 : ℝ) : EReal)
      = min ((448 : ℝ) : EReal) (max ((-448 : ℝ) : EReal) (Ideal.div y (Ideal.div g ((448 : ℝ) : EReal)))) * Ideal.div g ((448 : ℝ) : EReal) := by
  have hs : Ideal.div g ((448 : ℝ) : EReal) = g * ((1 / 448 : ℝ) : EReal) := Ideal.div_coe (by norm_num) g
  rw [hs]
  obtain ⟨h1, h2⟩ := max_le_iff.mp h
  have hg : 0 ≤ g := by
    rcases le_total 0 y with hy | hy
    · exact hy.trans h1
    · exact le_trans (by simpa using EReal.neg_le_neg_iff.mpr hy) h2
  by_cases h0 : g = 0
  · subst h0; simp
  · have hp : 0 < g := lt_of_le_of_ne hg (Ne.symm h0)
    have hc : g * ((1 / 448 : ℝ) : EReal) ≠ 0 := mul_ne_zero h0 (by norm_num)
    have e : y * Ideal.div ((448 : ℝ) : EReal) g = Ideal.div y (g * ((1 / 448 : ℝ) : EReal)) := by
      unfold Ideal.div
      rw [if_neg h0, if_neg hc]
      congr 1
      induction g with
      | bot => simp at hp
      | top => rw [EReal.top_mul_coe_of_pos (by norm_num)]; simp
      | coe g =>
        rw [← EReal.coe_inv, ← EReal.coe_mul, ← EReal.coe_mul, ← EReal.coe_inv]
        congr 1
        have : g ≠ 0 := by exact_mod_cast h0
        field_simp
    rw [e]

theorem quant_apply (g : EReal) (v : FVec Ideal S512x1024 .f32) (i : S512x1024.Idx) :
    quant (F := Ideal) g v i = min ((448 : ℝ) : EReal) (max ((-448 : ℝ) : EReal) (v i * Ideal.div ((448 : ℝ) : EReal) g)) * Ideal.div g ((448 : ℝ) : EReal) := by
  unfold quant
  rw [shapeCast_self]
  show min (Ideal.ofBits .f32 0x43E00000#32) (max (Ideal.ofBits .f32 0xC3E00000#32) (v i * Ideal.div (Ideal.ofBits .f32 0x43E00000#32) g)) * Ideal.div g (Ideal.ofBits .f32 0x43E00000#32) = _
  rw [top_bits, low_bits]

end Cert.KernelIdeal.Amax

end
-- ==== Proof.Reference.lean ====
/- What the reference computes over the extended reals: the product, the largest magnitude in it, and each number of the result. -/
module

public import proofs.«01_k».proof.Proof.Gen.ReferenceIdeal.Value
public import Idealize.ShloMosaic.PureOps.Ideal.Laws
public import Idealize.ShloMosaic.PureOps.Reduce
public import Idealize.ShloMosaic.Lib.StackMember
public import Idealize.ShloMosaic.Lib.IdealHost
public import Idealize.ShloMosaic.Lib.ValueIdx
public import Idealize.ShloMosaic.Lib.Claim
public import Idealize.ShloMosaic.Lib.StableHlo.ReadAt
public import Idealize.ShloMosaic.Lib.Pipeline.ValueKit

@[expose] public section

noncomputable section

namespace Cert.ReferenceIdeal.Amax

open Idealize.ShloMosaic hiding ix0 ix1 ix2 ix3
open Idealize.ShloMosaic.TcCoe Idealize.ShloMosaic.ValueIdx
open Idealize.SL.Sem
open Cert.ReferenceIdeal Cert.ReferenceIdeal.Gen

section
variable {F : FTy → Type} [FloatOps F] (X : FVec F S4096x4096 .f32) (W : FVec F S4096x8192 .f32)

/-- The product. -/
def full : FVec F S4096x8192 .f32 := Host.dotGeneral dot_S4096x4096_S4096x8192_S4096x8192_1_0_0_1_n_n none X W
/-- The largest magnitude in it. -/
def amax : FVec F S_ .f32 := Host.reduce FloatOps.maximumf (Host.absf (full X W)) (constant S_ .f32 0xFF800000#32) Facts₀.reducesTo_S4096x8192_S_d0_1 Facts₀.h_S_
/-- The scale. -/
def scale : FVec F S_ .f32 := Host.divf (amax X W) (constant S_ .f32 0x43E00000#32)
/-- The product scaled and clipped. -/
def clipped : FVec F S4096x8192 .fp8e4m3 :=
  Host.convertf .fp8e4m3 (minimumf (broadcastInDim S4096x8192 ![] Facts₀.bcast_S_S4096x8192 (constant S_ .f32 0x43E00000#32 : FVec F S_ .f32))
    (maximumf (broadcastInDim S4096x8192 ![] Facts₀.bcast_S_S4096x8192 (constant S_ .f32 0xC3E00000#32 : FVec F S_ .f32))
      (Host.divf (full X W) (broadcastInDim S4096x8192 ![] Facts₀.bcast_S_S4096x8192 (scale X W)))))
/-- The result. -/
def result : FVec F S4096x8192 .f32 := fun y => FloatOps.mulf (FloatOps.extf .f32 Facts₀.bitsLt_fp8e4m3_f32 (clipped X W y)) (scale X W ix0)

end

section
variable (X : FVec Ideal S4096x4096 .f32) (W : FVec Ideal S4096x8192 .f32)

theorem full_apply (i : Fin 4096) (j : Fin 8192) : full X W (ix2 i j) = ∑ k : Fin 4096, X (ix2 i k) * W (ix2 k j) :=
  StackMember.dotGeneral_plain_apply none X W i j

theorem amax_le (b : EReal) : amax X W ix0 ≤ b ↔ ∀ i, max (full X W i) (-(full X W i)) ≤ b := by
  unfold amax
  rw [Host.reduce_eq_fold]
  show Finset.fold max (Ideal.ofBits .f32 0xFF800000#32) (Host.absf (full X W)) _ ≤ b ↔ _
  rw [Finset.fold_max_le, show Ideal.ofBits .f32 0xFF800000#32 = ⊥ from by simp [Ideal.ofBits, Ideal.ieee]]
  exact ⟨fun h i => h.2 i (Finset.mem_filter.mpr ⟨Finset.mem_univ _, funext fun a => a.elim0⟩), fun h => ⟨bot_le, fun i _ => h i⟩⟩

theorem result_apply (y : S4096x8192.Idx) :
    result X W y = min (Ideal.ofBits .f32 0x43E00000#32) (max (Ideal.ofBits .f32 0xC3E00000#32)
      (Ideal.div (full X W y) (Ideal.div (amax X W ix0) (Ideal.ofBits .f32 0x43E00000#32)))) * Ideal.div (amax X W ix0) (Ideal.ofBits .f32 0x43E00000#32) := by
  have hs : scale X W ix0 = Ideal.div (amax X W ix0) (Ideal.ofBits .f32 0x43E00000#32) := rfl
  rw [← hs]
  have hb : broadcastInDim S4096x8192 ![] Facts₀.bcast_S_S4096x8192 (scale X W) y = scale X W ix0 := broadcastInDim_scalar_apply _ _ y
  rw [← hb]
  unfold result
  rw [← hb]
  rfl

end

variable {F : FTy → Type} [FloatOps F] (m : (ℓ : Loc nD τ sig) → Buf (Elt F) ℓ) (ρ : Dev nD → PrngReg)

theorem V_clipped (c : Dev nD) : V m c main_v7 = clipped (m ((c : Thread nD τ).loc main_arg0)) (m ((c : Thread nD τ).loc main_arg1)) := by
  entry_read
  after_reads_simp
  try simp -implicitDefEqProofs only [StableHlo.TRef.toBuf, StableHlo.TRef.ofBuf, cast_cast, cast_eq, id_eq]
  unfold clipped scale amax full
  rfl

theorem V_scale (c : Dev nD) : V m c main_v8 = shapeCast S1x1 (scale (m ((c : Thread nD τ).loc main_arg0)) (m ((c : Thread nD τ).loc main_arg1))) Facts₀.shapeCasts_S_S1x1 := by
  entry_read
  after_reads_simp
  try simp -implicitDefEqProofs only [StableHlo.TRef.toBuf, StableHlo.TRef.ofBuf, cast_cast, cast_eq, id_eq]
  unfold scale amax full
  rfl

/-- What the last stage leaves of a block of numbers `P` and a scale `s`. -/
theorem last_eq (P : Vec F S4096x8192 .fp8e4m3) (s : FVec F S_ .f32) (y : S4096x8192.Idx) :
    out0_2 P (shapeCast S1x1 s Facts₀.shapeCasts_S_S1x1) y = FloatOps.mulf (FloatOps.extf .f32 Facts₀.bitsLt_fp8e4m3_f32 (P y)) (s ix0) := by
  refine (Value.canon2_eq _ _ y).trans ?_
  refine congrArg₂ FloatOps.mulf (congrArg _ (congrArg P (funext fun a => ?_))) (congrArg s (funext fun a => a.elim0))
  match a with
  | ⟨0, _⟩ => exact Fin.ext (by show 0 + 1 * (y 0).val = (y 0).val; omega)
  | ⟨1, _⟩ => exact Fin.ext (by show 0 + 1 * (y 1).val = (y 1).val; omega)

theorem read0 (A : S4096x8192.Idx → Elt F .fp8e4m3) : ((cfg0.win 0).blk t0_0).view.read (Elt F) A = A := by
  funext y
  refine congrArg A (funext fun a => Fin.ext ?_)
  blk_simp
  show 0 * _ + _ = _
  rw [zero_mul, zero_add]
theorem read1 (A : S1x1.Idx → Elt F .f32) : ((cfg0.win 1).blk t0_0).view.read (Elt F) A = A := by
  funext y
  refine congrArg A (funext fun a => Fin.ext ?_)
  blk_simp
  show 0 * _ + _ = _
  rw [zero_mul, zero_add]

/-- The output array is what the last stage leaves in it. -/
theorem arr_eq (c : Dev nD) (G : S4096x8192.Idx → Elt F .f32) (h : ∀ y : S4096x8192.Idx, (dats m 0 c).after 2 t0_0 y = G y) : (dats m 0 c).arrAt 2 cfg0.N = G :=
  (dats m 0 c).arrAt_eq_of_after_last 2 t0_0 (by decide +kernel) G fun j => h j

theorem final_out (c : Dev nD) : (dats m 0 c).arrAt 2 cfg0.N = result (m ((c : Thread nD τ).loc main_arg0)) (m ((c : Thread nD τ).loc main_arg1)) := by
  refine arr_eq m c _ fun j => ?_
  rw [after0_2]
  have h0 : iblk m c 0 t0_0 = clipped (m ((c : Thread nD τ).loc main_arg0)) (m ((c : Thread nD τ).loc main_arg1)) := (read0 _).trans (V_clipped m c)
  have h1 : iblk m c 1 t0_0 = shapeCast S1x1 (scale (m ((c : Thread nD τ).loc main_arg0)) (m ((c : Thread nD τ).loc main_arg1))) Facts₀.shapeCasts_S_S1x1 := (read1 _).trans (V_scale m c)
  rw [h0, h1]
  exact last_eq _ _ j

/-- Every fair run of the reference ends with the result in its output and the arguments as launched. -/
theorem run_result : θ_run defs (onTc (τ := τ) (main (F := F))) ⟨m, fun _ => 0, ρ⟩ fun r => ∀ c : Dev nD,
      r.2.mem ((c : Thread nD τ).loc main_v9) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_out m c), (h c).2⟩) (Value.run_blocks m ρ)

end Cert.ReferenceIdeal.Amax

end
-- ==== Proof.Equation.lean ====
/- The two results are equal: every block of rows that a device leaves is the same block of what the reference computes. -/
module

public import proofs.«01_k».proof.Proof.Values
public import proofs.«01_k».proof.Proof.Reference
public import proofs.«01_k».proof.Proof.Run
public import Idealize.ShloMosaic.Lib.Layout

@[expose] public section

noncomputable section

namespace Cert.KernelIdeal.Amax

open Idealize.ShloMosaic hiding ix0 ix1 ix2 ix3
open Idealize.ShloMosaic.TcCoe Idealize.ShloMosaic.ValueIdx
open Idealize.SL.Sem
open Cert.KernelIdeal.Gen
open Cert.ReferenceIdeal.Amax (full amax result)

variable (m : (ℓ : Loc nD τ sig) → Buf (Elt Ideal) ℓ)
  (X : FVec Ideal ⟨2, ![4096, 4096]⟩ .f32) (W : FVec Ideal ⟨2, ![4096, 8192]⟩ .f32)

/-- The devices hold blocks of columns of `X`, and each the whole of `W`. -/
def Holds : Prop := ∀ c : Dev nD, xIn m c = Layout.block ⟨2, ![4096, 512]⟩ ⟨2, ![4096, 4096]⟩ 1 8 c X ∧ wIn m c = W

variable {m X W} (H : Holds m X W)
include H

theorem x_apply (d : Dev nD) (i : Fin 4096) (l : Fin 512) : xIn m d (ix2 i l) = X (ix2 i (place 512 rfl d l)) := by
  rw [(H d).1]
  refine congrArg X (funext fun a => ?_)
  match a with
  | ⟨0, _⟩ => exact Fin.ext rfl
  | ⟨1, _⟩ => exact Fin.ext (by show d.val * 512 + l.val = 512 * d.val + l.val; omega)

/-- After the last step a device's tile holds its rows of the product. -/
theorem acc_full (c : Dev nD) (n : Fin 8) (r : Fin 512) (q : Fin 1024) :
    acc m c 7 n (ix2 r q) = full X W (ix2 (place 512 rfl c r) (place 1024 rfl n q)) := by
  rw [acc_last, Cert.ReferenceIdeal.Amax.full_apply]
  refine Eq.trans ?_ (Fin.sum_mul_add_fin 8 512 (fun k : Fin 4096 => X (ix2 (place 512 rfl c r) k) * W (ix2 k (place 1024 rfl n q))) rfl)
  refine Finset.sum_congr rfl fun d _ => Finset.sum_congr rfl fun l _ => ?_
  have h : (⟨d.val * 512 + l.val, Fin.mul_add_lt_of_eq_mul rfl d l⟩ : Fin 4096) = place 512 rfl d l := Fin.ext (by show d.val * 512 + l.val = 512 * d.val + l.val; omega)
  rw [x_apply H, (H c).2, h]

omit H in
/-- Every place lies in one block. -/
theorem exists_place (B : ℕ) {N : ℕ} (hN : N = 8 * B) (i : Fin N) : ∃ j r, i = place B hN j r := by
  subst hN
  have hi := i.isLt
  have hB : 0 < B := by omega
  exact ⟨⟨i.val / B, Nat.div_lt_of_lt_mul (by omega)⟩, ⟨i.val % B, Nat.mod_lt _ hB⟩, Fin.ext (Nat.div_add_mod i.val B).symm⟩

/-- The devices' largest magnitude is the reference's. -/
theorem gmax_eq (c : Dev nD) : gmax m c = amax X W ix0 := by
  refine eq_of_forall_ge_iff fun b => ?_
  rw [gmax_le, Cert.ReferenceIdeal.Amax.amax_le]
  simp only [acc_full H]
  constructor
  · intro h i
    obtain ⟨a, b, rfl⟩ : ∃ (a : Fin 4096) (b : Fin 8192), i = ix2 a b := ⟨i 0, i 1, ValueIdx.eq_ix2 i⟩
    obtain ⟨d, r, rfl⟩ := exists_place 512 rfl a
    obtain ⟨n, q, rfl⟩ := exists_place 1024 rfl b
    exact h d n r q
  · exact fun h d n r q => h _

/-- Each number of a device's tile is the reference's. -/
theorem outTile_eq (c : Dev nD) (n : Fin 8) (r : Fin 512) (q : Fin 1024) :
    outTile m c n (ix2 r q) = result X W (ix2 (place 512 rfl c r) (place 1024 rfl n q)) := by
  unfold outTile
  rw [quant_apply, gmax_eq H, acc_full H, Cert.ReferenceIdeal.Amax.result_apply, top_bits, low_bits]
  exact quant_real _ _ ((Cert.ReferenceIdeal.Amax.amax_le X W _).mp le_rfl _)

/-- A device's result is its block of rows of the reference's. -/
theorem out_eq (c : Dev nD) : outF m c = Layout.block ⟨2, ![512, 8192]⟩ ⟨2, ![4096, 8192]⟩ 0 8 c (result X W) := by
  funext i
  obtain ⟨r, b, rfl⟩ : ∃ (r : Fin 512) (b : Fin 8192), i = ix2 r b := ⟨i 0, i 1, ValueIdx.eq_ix2 i⟩
  obtain ⟨n, q, rfl⟩ := exists_place 1024 rfl b
  unfold outF
  rw [← emb_tile, Rect.glue_emb tileR til_tile.cover til_tile.disj, outTile_eq H, emb_tile]
  refine congrArg (result X W) (funext fun a => ?_)
  match a with
  | ⟨0, _⟩ => exact Fin.ext (by show 512 * c.val + r.val = c.val * 512 + r.val; omega)
  | ⟨1, _⟩ => exact Fin.ext rfl

end Cert.KernelIdeal.Amax

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Equation
public import Idealize.ShloMosaic.Adequacy
public import Idealize.ShloMosaic.Init

@[expose] public section

noncomputable section

-- The claims also say that every semaphore counter ends at zero; `run_main` has that.

namespace Cert.Proof

open Idealize.ShloMosaic Idealize.SL.Sem

/-- The kernel's frame at bit patterns: the two programs are one text, so the run over any values is this one too. -/
theorem frame_kernel : Cert.quiescent_Kernel (hKernel := Cert.Kernel.Gen.facts) := by
  intro m ρ _
  have h := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun r (h : Cert.KernelIdeal.Amax.Post (F := Bits) m r) => ⟨fun c => ⟨(h.1 c).1, (h.1 c).2.1⟩, h.2⟩) (Cert.KernelIdeal.Amax.run_main (F := Bits) m ρ)
  refine Eq.mp ?_ h
  sl_kernel_rfl

/-- The same over the extended reals. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdeal.Amax.run_main (F := Ideal) m ρ)

/-- The reference's. -/
theorem frame_referenceIdeal : Cert.quiescent_ReferenceIdeal (hReferenceIdeal := Cert.ReferenceIdeal.Gen.facts) := fun m ρ _ =>
  Cert.ReferenceIdeal.Gen.frame m ρ

/-- The kernel's devices leave the blocks of rows of what the reference leaves. -/
theorem algebraic : Cert.algebraic_KernelIdeal_ReferenceIdeal (hKernelIdeal := Cert.KernelIdeal.Gen.facts) (hReferenceIdeal := Cert.ReferenceIdeal.Gen.facts) := by
  intro m g m' g' _ hin
  refine ⟨_, (θ_run Cert.KernelIdeal.defs _ _).mono (fun _ h c => ⟨(h.1 c).2.2.trans (Cert.KernelIdeal.Amax.out_eq (fun d => hin d) c), (h.1 c).1, (h.1 c).2.1⟩)
    (Cert.KernelIdeal.Amax.run_main (F := Ideal) m g), ?_⟩
  exact (θ_run Cert.ReferenceIdeal.defs _ _).mono (fun _ h => h 0) (Cert.ReferenceIdeal.Amax.run_result (F := Ideal) m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
